-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_v93) = v3 c
          ∧ r.2.mem ((c.tc : Thread Cert.ReferenceIdeal.nD Cert.ReferenceIdeal.τ).loc Cert.ReferenceIdeal.main_v96) = v4 c
          ∧ r.2.mem ((c.tc : Thread Cert.ReferenceIdeal.nD Cert.ReferenceIdeal.τ).loc Cert.ReferenceIdeal.main_v97) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S32768x1024 : Shape := ⟨2, ![32768, 1024]⟩
abbrev S1x1024 : Shape := ⟨2, ![1, 1024]⟩
abbrev S64 : Shape := ⟨1, ![64]⟩
abbrev S1024x6144 : Shape := ⟨2, ![1024, 6144]⟩
abbrev S_ : Shape := ⟨0, ![]⟩

class Facts : Prop where
  bcast_S_S32768x1024 : S_.BroadcastsInDim S32768x1024 (![] : Fin 0 → Fin S32768x1024.rank)
  bcast_S_S1x1024 : S_.BroadcastsInDim S1x1024 (![] : Fin 0 → Fin S1x1024.rank)
  bcast_S_S1024x6144 : S_.BroadcastsInDim S1024x6144 (![] : Fin 0 → Fin S1024x6144.rank)

variable [Facts]

def fn {F : FTy → Type} [FloatOps F] (main_arg0 : FVec F S32768x1024 .f32) (main_arg1 : FVec F S1x1024 .f32) (main_arg2 : FVec F S64 .f32) (main_arg3 : FVec F S1024x6144 .bf16) : IVec S32768x1024 1 × IVec S1x1024 1 × IVec S1024x6144 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x6144 .bf16 := Host.absf main_arg3
  let main_cst_1 : FVec F S_ .bf16 := constant S_ .bf16 0x7F80#16
  let main_v7 : FVec F S1024x6144 .bf16 := broadcastInDim S1024x6144 ![] bcast_S_S1024x6144 main_cst_1
  let main_v8 : IVec S1024x6144 1 := cmpf .olt main_v6 main_v7
  (main_v2, main_v5, main_v8)
-- ==== Kernel.lean ====
abbrev S32768x1024 : Shape := ⟨2, ![32768, 1024]⟩
abbrev S1x1024 : Shape := ⟨2, ![1, 1024]⟩
abbrev S64 : Shape := ⟨1, ![64]⟩
abbrev S1024x6144 : Shape := ⟨2, ![1024, 6144]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S32768x4096 : Shape := ⟨2, ![32768, 4096]⟩
abbrev S1024x512 : Shape := ⟨2, ![1024, 512]⟩
abbrev S128x8x80x256 : Shape := ⟨4, ![128, 8, 80, 256]⟩
abbrev S128x8x64x256 : Shape := ⟨4, ![128, 8, 64, 256]⟩
abbrev S128x8x128x256 : Shape := ⟨4, ![128, 8, 128, 256]⟩
abbrev S1024x1024 : Shape := ⟨2, ![1024, 1024]⟩
abbrev S1024x4096 : Shape := ⟨2, ![1024, 4096]⟩
abbrev S32x512 : Shape := ⟨2, ![32, 512]⟩
abbrev S4x8x80x256 : Shape := ⟨4, ![4, 8, 80, 256]⟩
abbrev S4x8x64x256 : Shape := ⟨4, ![4, 8, 64, 256]⟩
abbrev S4x8x128x256 : Shape := ⟨4, ![4, 8, 128, 256]⟩
abbrev S256x128 : Shape := ⟨2, ![256, 128]⟩
abbrev S16x256 : Shape := ⟨2, ![16, 256]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S256 : Shape := ⟨1, ![256]⟩
abbrev S256x1 : Shape := ⟨2, ![256, 1]⟩
abbrev S8x128 : Shape := ⟨2, ![8, 128]⟩
abbrev S128x256 : Shape := ⟨2, ![128, 256]⟩
abbrev S64x256 : Shape := ⟨2, ![64, 256]⟩
abbrev S1x1x64x256 : Shape := ⟨4, ![1, 1, 64, 256]⟩
abbrev S1x1x16x256 : Shape := ⟨4, ![1, 1, 16, 256]⟩
abbrev S1x1x128x256 : Shape := ⟨4, ![1, 1, 128, 256]⟩

abbrev nBuf : Space → Nat
  | .hbm => 14
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S64, .f32⟩
  | .hbm, ⟨3, _⟩ => ⟨S1024x6144, .bf16⟩
  | .hbm, ⟨4, _⟩ => ⟨S1x64, .f32⟩
  | .hbm, ⟨5, _⟩ => ⟨S2x64, .f32⟩
  | .hbm, ⟨6, _⟩ => ⟨S128, .f32⟩
  | .hbm, ⟨7, _⟩ => ⟨S1x128, .f32⟩
  | .hbm, ⟨8, _⟩ => ⟨S32768x4096, .bf16⟩
  | .hbm, ⟨9, _⟩ => ⟨S32768x1024, .bf16⟩
  | .hbm, ⟨10, _⟩ => ⟨S1024x512, .f32⟩
  | .hbm, ⟨11, _⟩ => ⟨S128x8x80x256, .bf16⟩
  | .hbm, ⟨12, _⟩ => ⟨S128x8x64x256, .bf16⟩
  | .hbm, ⟨13, _⟩ => ⟨S128x8x128x256, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x128, .f32⟩
  | .local _ .vmem, ⟨4, _⟩ => ⟨S1024x4096, .bf16⟩
  | .local _ .vmem, ⟨5, _⟩ => ⟨S1024x4096, .bf16⟩
  | .local _ .vmem, ⟨6, _⟩ => ⟨S1024x4096, .bf16⟩
  | .local _ .vmem, ⟨7, _⟩ => ⟨S1024x1024, .bf16⟩
  | .local _ .vmem, ⟨8, _⟩ => ⟨S1024x1024, .bf16⟩
  | .local _ .vmem, ⟨9, _⟩ => ⟨S32x512, .f32⟩
  | .local _ .vmem, ⟨10, _⟩ => ⟨S32x512, .f32⟩
  | .local _ .vmem, ⟨11, _⟩ => ⟨S4x8x80x256, .bf16⟩
  | .local _ .vmem, ⟨12, _⟩ => ⟨S4x8x80x256, .bf16⟩
  | .local _ .vmem, ⟨13, _⟩ => ⟨S4x8x64x256, .bf16⟩
  | .local _ .vmem, ⟨14, _⟩ => ⟨S4x8x64x256, .bf16⟩
  | .local _ .vmem, ⟨15, _⟩ => ⟨S4x8x128x256, .bf16⟩
  | .local _ .vmem, ⟨16, _⟩ => ⟨S4x8x128x256, .bf16⟩
  | .local _ .vmem, ⟨17, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev main_v4_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x8x80x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x8x64x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x8x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S32768x1024 : Shape := ⟨2, ![32768, 1024]⟩
abbrev S1x1024 : Shape := ⟨2, ![1, 1024]⟩
abbrev S64 : Shape := ⟨1, ![64]⟩
abbrev S1024x6144 : Shape := ⟨2, ![1024, 6144]⟩
abbrev S_ : Shape := ⟨0, ![]⟩
abbrev S32768 : Shape := ⟨1, ![32768]⟩
abbrev S32768x1 : Shape := ⟨2, ![32768, 1]⟩
abbrev S1024x4096 : Shape := ⟨2, ![1024, 4096]⟩
abbrev S32768x4096 : Shape := ⟨2, ![32768, 4096]⟩
abbrev S32768x512 : Shape := ⟨2, ![32768, 512]⟩
abbrev S32768x8x64 : Shape := ⟨3, ![32768, 8, 64]⟩
abbrev S32768x8 : Shape := ⟨2, ![32768, 8]⟩
abbrev S32768x8x1 : Shape := ⟨3, ![32768, 8, 1]⟩
abbrev S1x1x64 : Shape := ⟨3, ![1, 1, 64]⟩
abbrev S128x256x512 : Shape := ⟨3, ![128, 256, 512]⟩
abbrev S128x512 : Shape := ⟨2, ![128, 512]⟩
abbrev S128x1x512 : Shape := ⟨3, ![128, 1, 512]⟩
abbrev S128x8x512 : Shape := ⟨3, ![128, 8, 512]⟩
abbrev S1024x512 : Shape := ⟨2, ![1024, 512]⟩
abbrev S1x64 : Shape := ⟨2, ![1, 64]⟩
abbrev S8 : Shape := ⟨1, ![8]⟩
abbrev S8x1 : Shape := ⟨2, ![8, 1]⟩
abbrev S8x64 : Shape := ⟨2, ![8, 64]⟩
abbrev S1x8x1x1x64 : Shape := ⟨5, ![1, 8, 1, 1, 64]⟩
abbrev S16x8x256x4x64 : Shape := ⟨5, ![16, 8, 256, 4, 64]⟩
abbrev S16x8x256x4x2x64 : Shape := ⟨6, ![16, 8, 256, 4, 2, 64]⟩
abbrev S16x8x256x4x1x64 : Shape := ⟨6, ![16, 8, 256, 4, 1, 64]⟩
abbrev S16x8x256x4x4x64 : Shape := ⟨6, ![16, 8, 256, 4, 4, 64]⟩
abbrev S128x256x8x64 : Shape := ⟨4, ![128, 256, 8, 64]⟩
abbrev S128x8x64x256 : Shape := ⟨4, ![128, 8, 64, 256]⟩
abbrev S128x8x16x256 : Shape := ⟨4, ![128, 8, 16, 256]⟩
abbrev S128x8x80x256 : Shape := ⟨4, ![128, 8, 80, 256]⟩
abbrev S128x4x2x64x256 : Shape := ⟨5, ![128, 4, 2, 64, 256]⟩
abbrev S128x4x64x256 : Shape := ⟨4, ![128, 4, 64, 256]⟩
abbrev S128x4x1x64x256 : Shape := ⟨5, ![128, 4, 1, 64, 256]⟩
abbrev S128x4x4x64x256 : Shape := ⟨5, ![128, 4, 4, 64, 256]⟩
abbrev S128x8x128x256 : Shape := ⟨4, ![128, 8, 128, 256]⟩

abbrev nBuf : Space → Nat
  | .hbm => 114
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S64, .f32⟩
  | .hbm, ⟨3, _⟩ => ⟨S1024x6144, .bf16⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S1024x4096, .bf16⟩
  | .hbm, ⟨20, _⟩ => ⟨S1024x4096, .f32⟩
  | .hbm, ⟨21, _⟩ => ⟨S32768x4096, .f32⟩
  | .hbm, ⟨22, _⟩ => ⟨S32768x512, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S32768x8x64, .f32⟩
  | .hbm, ⟨31, _⟩ => ⟨S32768x8x64, .f32⟩
  | .hbm, ⟨32, _⟩ => ⟨S_, .f32⟩
  | .hbm, ⟨33, _⟩ => ⟨S32768x8, .f32⟩
  | .hbm, ⟨34, _⟩ => ⟨S32768x8x1, .f32⟩
  | .hbm, ⟨35, _⟩ => ⟨S_, .f32⟩
  | .hbm, ⟨36, _⟩ => ⟨S32768x8x1, .f32⟩
  | .hbm, ⟨37, _⟩ => ⟨S32768x8x1, .f32⟩
  | .hbm, ⟨38, _⟩ => ⟨S_, .f32⟩
  | .hbm, ⟨39, _⟩ => ⟨S32768x8x1, .f32⟩
  | .hbm, ⟨40, _⟩ => ⟨S32768x8x1, .f32⟩
  | .hbm, ⟨41, _⟩ => ⟨S32768x8x1, .f32⟩
  | .hbm, ⟨42, _⟩ => ⟨S32768x8x64, .f32⟩
  | .hbm, ⟨43, _⟩ => ⟨S32768x8x64, .f32⟩
  | .hbm, ⟨44, _⟩ => ⟨S1x1x64, .f32⟩
  | .hbm, ⟨45, _⟩ => ⟨S32768x8x64, .f32⟩
  | .hbm, ⟨46, _⟩ => ⟨S32768x8x64, .f32⟩
  | .hbm, ⟨47, _⟩ => ⟨S128x256x512, .f32⟩
  | .hbm, ⟨48, _⟩ => ⟨S_, .f32⟩
  | .hbm, ⟨49, _⟩ => ⟨S128x512, .f32⟩
  | .hbm, ⟨50, _⟩ => ⟨S128x1x512, .f32⟩
  | .hbm, ⟨51, _⟩ => ⟨S_, .f32⟩
  | .hbm, ⟨52, _⟩ => ⟨S128x1x512, .f32⟩
  | .hbm, ⟨53, _⟩ => ⟨S128x1x512, .f32⟩
  | .hbm, ⟨54, _⟩ => ⟨S128x8x512, .f32⟩
  | .hbm, ⟨55, _⟩ => ⟨S1024x512, .f32⟩
  | .hbm, ⟨56, _⟩ => ⟨S64, .i32⟩
  | .hbm, ⟨57, _⟩ => ⟨S1x64, .i32⟩
  | .hbm, ⟨58, _⟩ => ⟨S8, .i32⟩
  | .hbm, ⟨59, _⟩ => ⟨S8x1, .i32⟩
  | .hbm, ⟨60, _⟩ => ⟨S8x64, .i32⟩
  | .hbm, ⟨61, _⟩ => ⟨S8x64, .i32⟩
  | .hbm, ⟨62, _⟩ => ⟨S8x64, .i1⟩
  | .hbm, ⟨63, _⟩ => ⟨S_, .i32⟩
  | .hbm, ⟨64, _⟩ => ⟨S8x1, .i32⟩
  | .hbm, ⟨65, _⟩ => ⟨S8x1, .i32⟩
  | .hbm, ⟨66, _⟩ => ⟨S8x64, .i32⟩
  | .hbm, ⟨67, _⟩ => ⟨S8x64, .i32⟩
  | .hbm, ⟨68, _⟩ => ⟨S8x64, .i1⟩
  | .hbm, ⟨69, _⟩ => ⟨S8x64, .i1⟩
  | .hbm, ⟨70, _⟩ => ⟨S8x64, .f32⟩
  | .hbm, ⟨71, _⟩ => ⟨S1x8x1x1x64, .f32⟩
  | .hbm, ⟨72, _⟩ => ⟨S16x8x256x4x64, .f32⟩
  | .hbm, ⟨73, _⟩ => ⟨S16x8x256x4x2x64, .f32⟩
  | .hbm, ⟨74, _⟩ => ⟨S16x8x256x4x1x64, .f32⟩
  | .hbm, ⟨75, _⟩ => ⟨S16x8x256x4x64, .f32⟩
  | .hbm, ⟨76, _⟩ => ⟨S16x8x256x4x1x64, .f32⟩
  | .hbm, ⟨77, _⟩ => ⟨S16x8x256x4x64, .f32⟩
  | .hbm, ⟨78, _⟩ => ⟨S16x8x256x4x1x64, .f32⟩
  | .hbm, ⟨79, _⟩ => ⟨S16x8x256x4x1x64, .f32⟩
  | .hbm, ⟨80, _⟩ => ⟨S16x8x256x4x1x64, .f32⟩
  | .hbm, ⟨81, _⟩ => ⟨S16x8x256x4x1x64, .f32⟩
  | .hbm, ⟨82, _⟩ => ⟨S16x8x256x4x4x64, .f32⟩
  | .hbm, ⟨83, _⟩ => ⟨S32768x1024, .f32⟩
  | .hbm, ⟨84, _⟩ => ⟨S128x256x8x64, .f32⟩
  | .hbm, ⟨85, _⟩ => ⟨S128x8x64x256, .f32⟩
  | .hbm, ⟨86, _⟩ => ⟨S_, .f32⟩
  | .hbm, ⟨87, _⟩ => ⟨S128x8x16x256, .f32⟩
  | .hbm, ⟨88, _⟩ => ⟨S128x8x80x256, .f32⟩
  | .hbm, ⟨89, _⟩ => ⟨S128x256x8x64, .f32⟩
  | .hbm, ⟨90, _⟩ => ⟨S128x8x64x256, .f32⟩
  | .hbm, ⟨91, _⟩ => ⟨S_, .f32⟩
  | .hbm, ⟨92, _⟩ => ⟨S128x8x64x256, .f32⟩
  | .hbm, ⟨93, _⟩ => ⟨S128x8x64x256, .f32⟩
  | .hbm, ⟨94, _⟩ => ⟨S128x4x2x64x256, .f32⟩
  | .hbm, ⟨95, _⟩ => ⟨S_, .f32⟩
  | .hbm, ⟨96, _⟩ => ⟨S128x4x64x256, .f32⟩
  | .hbm, ⟨97, _⟩ => ⟨S128x4x1x64x256, .f32⟩
  | .hbm, ⟨98, _⟩ => ⟨S128x4x64x256, .f32⟩
  | .hbm, ⟨99, _⟩ => ⟨S128x4x1x64x256, .f32⟩
  | .hbm, ⟨100, _⟩ => ⟨S128x4x64x256, .f32⟩
  | .hbm, ⟨101, _⟩ => ⟨S128x4x1x64x256, .f32⟩
  | .hbm, ⟨102, _⟩ => ⟨S128x4x1x64x256, .f32⟩
  | .hbm, ⟨103, _⟩ => ⟨S128x4x1x64x256, .f32⟩
  | .hbm, ⟨104, _⟩ => ⟨S128x4x1x64x256, .f32⟩
  | .hbm, ⟨105, _⟩ => ⟨S128x4x4x64x256, .f32⟩
  | .hbm, ⟨106, _⟩ => ⟨S128x8x128x256, .f32⟩
  | .hbm, ⟨107, _⟩ => ⟨S32768x4096, .bf16⟩
  | .hbm, ⟨108, _⟩ => ⟨S32768x1024, .bf16⟩
  | .hbm, ⟨109, _⟩ => ⟨S128x8x80x256, .bf16⟩
  | .hbm, ⟨110, _⟩ => ⟨S128x256x8x64, .f32⟩
  | .hbm, ⟨111, _⟩ => ⟨S128x8x64x256, .f32⟩
  | .hbm, ⟨112, _⟩ => ⟨S128x8x64x256, .bf16⟩
  | .hbm, ⟨113, _⟩ => ⟨S128x8x128x256, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_c : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_cst_7 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_cst_8 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_cst_9 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩

abbrev nD : Nat := 1
abbrev τ : Topo := Topo.v7x

variable {F : FTy → Type} [FloatOps F]
-- ==== Kernel2.lean ====
abbrev S32768x1024 : Shape := ⟨2, ![32768, 1024]⟩
abbrev S32768x512 : Shape := ⟨2, ![32768, 512]⟩
abbrev S1x1024 : Shape := ⟨2, ![1, 1024]⟩
abbrev S1x2048 : Shape := ⟨2, ![1, 2048]⟩
abbrev S1024x6144 : Shape := ⟨2, ![1024, 6144]⟩
abbrev S512x1024 : Shape := ⟨2, ![512, 1024]⟩
abbrev S1024x1024 : Shape := ⟨2, ![1024, 1024]⟩
abbrev S1024x512 : Shape := ⟨2, ![1024, 512]⟩
abbrev S1024x2048 : Shape := ⟨2, ![1024, 2048]⟩
abbrev S512 : Shape := ⟨1, ![512]⟩
abbrev S512x1 : Shape := ⟨2, ![512, 1]⟩
abbrev S512x512 : Shape := ⟨2, ![512, 512]⟩
abbrev S1x512 : Shape := ⟨2, ![1, 512]⟩

abbrev nBuf : Space → Nat
  | .hbm => 10
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1x1024, .f32⟩
  | .hbm, ⟨4, _⟩ => ⟨S1x2048, .f32⟩
  | .hbm, ⟨5, _⟩ => ⟨S1024x6144, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1024, .f32⟩
  | .local _ .vmem, ⟨7, _⟩ => ⟨S1x2048, .f32⟩
  | .local _ .vmem, ⟨8, _⟩ => ⟨S1024x2048, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S32768x1024 : Shape := ⟨2, ![32768, 1024]⟩
abbrev S32768x512 : Shape := ⟨2, ![32768, 512]⟩
abbrev S1x1024 : Shape := ⟨2, ![1, 1024]⟩
abbrev S1x2048 : Shape := ⟨2, ![1, 2048]⟩
abbrev S1024x6144 : Shape := ⟨2, ![1024, 6144]⟩
abbrev S512x1024 : Shape := ⟨2, ![512, 1024]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S1024x2048 : Shape := ⟨2, ![1024, 2048]⟩
abbrev S32768x2048 : Shape := ⟨2, ![32768, 2048]⟩

abbrev nBuf : Space → Nat
  | .hbm => 59
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1x1024, .f32⟩
  | .hbm, ⟨4, _⟩ => ⟨S1x2048, .f32⟩
  | .hbm, ⟨5, _⟩ => ⟨S1024x6144, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S32768x512, .f32⟩
  | .hbm, ⟨10, _⟩ => ⟨S32768x512, .f32⟩
  | .hbm, ⟨11, _⟩ => ⟨S1024x6144, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S32768x1024, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S1024x2048, .f32⟩
  | .hbm, ⟨31, _⟩ => ⟨S32768x2048, .f32⟩
  | .hbm, ⟨32, _⟩ => ⟨S32768x2048, .f32⟩
  | .hbm, ⟨33, _⟩ => ⟨S32768x2048, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S_, .f32⟩
  | .hbm, ⟨40, _⟩ => ⟨S32768x1024, .f32⟩
  | .hbm, ⟨41, _⟩ => ⟨S32768x1024, .f32⟩
  | .hbm, ⟨42, _⟩ => ⟨S_, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S_, .f32⟩
  | .hbm, ⟨50, _⟩ => ⟨S32768x1024, .f32⟩
  | .hbm, ⟨51, _⟩ => ⟨S32768x1024, .f32⟩
  | .hbm, ⟨52, _⟩ => ⟨S_, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S32768x1024, .f32⟩
  | .hbm, ⟨57, _⟩ => ⟨S32768x1024, .f32⟩
  | .hbm, ⟨58, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Proof.Finite.lean ====
/- Finite extended reals: sums, products and norms of finite entries are finite. -/
module
public import Idealize.ShloMosaic.PureOps.Ideal.Laws
public import Idealize.ShloMosaic.Lib.IdealHost

@[expose] public section
noncomputable section
namespace Cert.Finite
open Idealize.ShloMosaic

/-- The extended real is a real number. -/
def Real' (x : EReal) : Prop := ∃ r : ℝ, x = r

variable {ι : Type*} {x y : EReal}

theorem coe_sum (s : Finset ι) (g : ι → ℝ) : ((∑ j ∈ s, g j : ℝ) : EReal) = ∑ j ∈ s, (g j : EReal) := by
  classical
  induction s using Finset.induction_on with
  | empty => simp
  | insert a s ha ih => rw [Finset.sum_insert ha, Finset.sum_insert ha, EReal.coe_add, ih]

theorem Real'.coe (r : ℝ) : Real' r := ⟨r, rfl⟩
theorem Real'.mul (hx : Real' x) (hy : Real' y) : Real' (x * y) := by
  obtain ⟨a, rfl⟩ := hx
  obtain ⟨b, rfl⟩ := hy
  exact ⟨a * b, (EReal.coe_mul a b).symm⟩
theorem Real'.add (hx : Real' x) (hy : Real' y) : Real' (x + y) := by
  obtain ⟨a, rfl⟩ := hx
  obtain ⟨b, rfl⟩ := hy
  exact ⟨a + b, (EReal.coe_add a b).symm⟩
theorem Real'.sum (s : Finset ι) (f : ι → EReal) (h : ∀ j, Real' (f j)) : Real' (∑ j ∈ s, f j) := by
  choose g hg using h
  exact ⟨∑ j ∈ s, g j, by rw [coe_sum]; exact Finset.sum_congr rfl fun j _ => hg j⟩

/-- Below `⊤` in absolute value means finite. -/
theorem fin_of_abs_lt (h : max x (-x) < ⊤) : Real' x := by
  induction x using EReal.rec with
  | bot => simp at h
  | top => simp at h
  | coe r => exact ⟨r, rfl⟩

/-- The reciprocal root of a positive real is finite. -/
theorem Real'.rsqrt {r : ℝ} (h : 0 < r) : Real' (Ideal.rsqrt (r : EReal)) := by
  rw [Ideal.rsqrt_coe, if_neg h.le.not_gt, if_neg h.ne']
  exact ⟨_, rfl⟩

/-- A sum of squares of finite terms is a real that is not negative. -/
theorem squares (s : Finset ι) (f : ι → EReal) (h : ∀ j, Real' (f j)) : ∃ r : ℝ, 0 ≤ r ∧ ∑ j ∈ s, f j * f j = r := by
  choose g hg using h
  refine ⟨∑ j ∈ s, g j * g j, Finset.sum_nonneg fun j _ => mul_self_nonneg _, ?_⟩
  rw [coe_sum]
  exact Finset.sum_congr rfl fun j _ => by rw [hg j, EReal.coe_mul]

/-- The norms' ε is a positive real. -/
theorem epsilon : ∃ ε : ℝ, 0 < ε ∧ Ideal.ofBits .f32 0x358637BD#32 = (ε : EReal) :=
  ⟨8796093 * (2 : ℝ) ^ (-43 : ℤ), by positivity, by simp [Ideal.ofBits, Ideal.ieee, -EReal.coe_mul]⟩

end Cert.Finite
-- ==== Proof.ProjRows.lean ====
/- The projection's rows, and what a covered load inside one stored block reads. -/
module
public import Idealize.ShloMosaic.Lib.Pipeline.ValueKit
public import Idealize.ShloMosaic.Lib.Pipeline.ReadBack
public import proofs.«01_k».proof.Proof.Finite

@[expose] public section
noncomputable section

namespace Idealize.ShloMosaic.View
open Idealize.ShloMosaic

variable {s : Shape} {e : EltTy} {Val : EltTy → Type}

/-- A load that lies inside the newest stored block, itself a block of `G`, reads `G`. -/
theorem readCov_inside [∀ e, Nonempty (Val e)] {sig : RefSig} {κ : Kind} {sp : Space} (v : View sig κ sp s e) (G : s.Idx → Val e)
    (L : List (Piece Val s e)) {off size off' size' : Fin s.rank → ℕ} (inb : ∀ a, off a + size a ≤ s.size a) (inb' : ∀ a, off' a + size' a ≤ s.size a)
    (h : ∀ a, off a ≤ off' a ∧ off' a + size' a ≤ off a + size a) :
    v.readCov (⟨Rect.unit off size inb, ld G (Rect.unit off size inb)⟩ :: L) (Rect.unit off' size' inb').toLoadRect = ld G (Rect.unit off' size' inb') := by
  rw [readCov_eq_canon']
  funext x
  have hm : (Rect.unit off' size' inb').emb x ∈ (Rect.unit off size inb).set := by
    refine (Rect.mem_set_unit (inb := inb)).mpr fun a => ?_
    have hx : (x a).val < size' a := (x a).isLt
    have ha := h a
    show off a ≤ off' a + 1 * (x a).val ∧ off' a + 1 * (x a).val < off a + size a
    omega
  exact canon_append_of_piecesOf G L [⟨Rect.unit off size inb, ld G (Rect.unit off size inb)⟩] ⟨fun x => rfl, trivial⟩ _ ⟨_, List.mem_singleton_self _, hm⟩

/-- One more block. -/
theorem PiecesOf.cons {G : s.Idx → Val e} {r : Rect s} {w : r.shape.Idx → Val e} {L : List (Piece Val s e)} (h : w = ld G r) (hL : PiecesOf G L) :
    PiecesOf G (⟨r, w⟩ :: L) :=
  ⟨fun x => congrFun h x, hL⟩

/-- Stores that are blocks of `G` and cover an index leave `G` there. -/
theorem canon_of_blocks [∀ e, Nonempty (Val e)] (G : s.Idx → Val e) (L : List (Piece Val s e)) (h : PiecesOf G L) (y : s.Idx)
    (hc : ∃ p ∈ L, y ∈ p.1.set) : canon L y = G y := by
  have := canon_append_of_piecesOf G [] L h y hc
  rwa [List.append_nil] at this

end Idealize.ShloMosaic.View

namespace Cert.ProjRows
open Idealize.ShloMosaic

/-- Column `k` of a row after its RMS norm. -/
def normed (x w : Fin 1024 → EReal) (k : Fin 1024) : EReal :=
  x k * Ideal.rsqrt (Ideal.div (∑ j, x j * x j) (Ideal.ofBits .f32 0x44800000#32) + Ideal.ofBits .f32 0x358637BD#32) * w k

/-- The sum of squares of the head that key column `c` belongs to; a projected row's key columns begin at 512. -/
def headSquares (p : Fin 4096 → EReal) (c : Fin 512) : EReal :=
  ∑ j : Fin 64, p ⟨512 + (64 * (c.val / 64) + j.val), by omega⟩ * p ⟨512 + (64 * (c.val / 64) + j.val), by omega⟩

/-- Key column `c` of a projected row after its head's RMS norm, `w` being the column's weight. -/
def keyHat (p : Fin 4096 → EReal) (w : EReal) (c : Fin 512) : EReal :=
  p ⟨512 + c.val, by omega⟩ * Ideal.rsqrt (headSquares p c * Ideal.ofBits .f32 0x3C800000#32 + Ideal.ofBits .f32 0x358637BD#32) * w

/-- The code of block `b`: ones at `b` and at `8 + b`. -/
def code (b l : ℕ) : EReal := if l = b ∨ l = 8 + b then 1 else 0

/-- Column `c` of a row of augmented keys: every head has 128 columns, its 64 keys in its own half and its block's code in the other. -/
def augmented (p : Fin 4096 → EReal) (w : Fin 64 → EReal) (b : ℕ) (c : Fin 1024) : EReal :=
  if c.val / 128 % 2 = c.val % 128 / 64 then keyHat p (w ⟨c.val % 64, by omega⟩) ⟨64 * (c.val / 128) + c.val % 64, by omega⟩
  else code b (c.val % 64)

theorem select_lt (a b : EReal) : ∀ x : Fin 128, Scalar.select (IntOp.cmpi .slt (BitVec.ofNat 32 x.val) 64#32) a b = if x.val < 64 then a else b := by
  intro x
  have h : IntOp.cmpi .slt (BitVec.ofNat 32 x.val) 64#32 = if x.val < 64 then 1#1 else 0#1 := by revert x; decide
  rw [h]
  split <;> rfl

/-- A sum over a pair of heads splits into the two heads' sums. -/
theorem sum_pair (f : Fin 128 → EReal) : ∑ x, f x = (∑ j : Fin 64, f ⟨j.val, by omega⟩) + ∑ j : Fin 64, f ⟨64 + j.val, by omega⟩ :=
  Fin.sum_univ_add (a := 64) (b := 64) f

theorem sum_first (f : Fin 128 → EReal) : (∑ x : Fin 128, if x.val < 64 then f x else 0) = ∑ j : Fin 64, f ⟨j.val, by omega⟩ := by
  rw [sum_pair]
  have h : (∑ j : Fin 64, if (⟨64 + j.val, by omega⟩ : Fin 128).val < 64 then f ⟨64 + j.val, by omega⟩ else 0) = 0 :=
    Finset.sum_eq_zero fun j _ => if_neg (by simp)
  rw [h, add_zero]
  exact Finset.sum_congr rfl fun j _ => if_pos j.isLt

/-- Taking the first head's sum from the pair's leaves the second's, where all terms are finite. -/
theorem sum_second (f : Fin 128 → EReal) (hf : ∀ x, ∃ r : ℝ, f x = r) :
    (∑ x, f x) - (∑ j : Fin 64, f ⟨j.val, by omega⟩) = ∑ j : Fin 64, f ⟨64 + j.val, by omega⟩ := by
  choose g hg using hf
  rw [sum_pair]
  simp only [hg]
  rw [← Finite.coe_sum, ← Finite.coe_sum, ← EReal.coe_add, ← EReal.coe_sub]
  congr 1
  ring

end Cert.ProjRows
-- ==== Proof.ProjPoint.lean ====
/- What one grid point of the projecting kernel stores in each of its six outputs. -/
module
public import proofs.«01_k».proof.Proof.Gen.KernelIdeal.Value
public import proofs.«01_k».proof.Proof.ProjRows

@[expose] public section
set_option maxRecDepth 16384
noncomputable section
namespace Cert.KernelIdeal.Proj
open Cert.KernelIdeal Cert.KernelIdeal.Gen Idealize.ShloMosaic Idealize.ShloMosaic.TcCoe Idealize.SL.Sem Cert.ProjRows Cert.Finite
variable (m : (ℓ : Loc nD τ sig) → Buf (Elt Ideal) ℓ)

/-- The projected rows of a block. -/
def PR (x0 : FVec Ideal S1024x1024 .f32) (x1 : FVec Ideal S1x1024 .f32) (x3 : FVec Ideal S1024x4096 .bf16) : FVec Ideal S1024x4096 .bf16 := fun i =>
  ∑ k, normed (fun k => x0 (ix2 (i 0) k)) (fun k => x1 (ix2 0 k)) k * x3 (ix2 k (i 1))

/-- One stored product is a block of the projected rows. -/
theorem stored (x0 : FVec Ideal S1024x1024 .f32) (x1 : FVec Ideal S1x1024 .f32) (x3 : FVec Ideal S1024x4096 .bf16) (r c : ℕ) (inb inb' inb'') :
    k0_pay7 (k0_pay4 (View.ld (Val := Elt Ideal) (e' := .f32) x0 (Rect.unit (s := S1024x1024) ![r, 0] ![512, 1024] inb)) x1)
        (View.ld (Val := Elt Ideal) (e' := .bf16) x3 (Rect.unit (s := S1024x4096) ![0, c] ![1024, 512] inb'))
      = View.ld (Val := Elt Ideal) (e' := .bf16) (PR x0 x1 x3) (Rect.unit (s := S1024x4096) ![r, c] ![512, 512] inb'') := by
  funext z
  pointwise [k0_pay7, k0_pay4, PR, normed]

/-- The sixteen stores of the projection compute the same product. -/
theorem products : (k0_pay8 (F := Ideal) = k0_pay7 ∧ k0_pay71 (F := Ideal) = k0_pay7 ∧ k0_pay114 (F := Ideal) = k0_pay7 ∧ k0_pay115 (F := Ideal) = k0_pay7 ∧ k0_pay144 (F := Ideal) = k0_pay7 ∧ k0_pay145 (F := Ideal) = k0_pay7 ∧ k0_pay173 (F := Ideal) = k0_pay7 ∧ k0_pay174 (F := Ideal) = k0_pay7 ∧ k0_pay175 (F := Ideal) = k0_pay7 ∧ k0_pay228 (F := Ideal) = k0_pay7 ∧ k0_pay272 (F := Ideal) = k0_pay7 ∧ k0_pay273 (F := Ideal) = k0_pay7 ∧ k0_pay303 (F := Ideal) = k0_pay7 ∧ k0_pay304 (F := Ideal) = k0_pay7) ∧ k0_pay6 (F := Ideal) = k0_pay4
    ∧ ∀ x y, k0_pay5 (F := Ideal) x y (constant S512x512 .f32 0#32) = k0_pay7 x y :=
  ⟨⟨rfl, rfl, rfl, rfl, rfl, rfl, rfl, rfl, rfl, rfl, rfl, rfl, rfl, rfl⟩, rfl, fun _ _ => rfl⟩

section blocks
variable (P : FVec Ideal S1024x4096 .bf16) (kw : FVec Ideal S1x128 .f32) (β : BitVec 32) (b : ℕ)

/-- Row `q` of the projected block. -/
def row (q : Fin 1024) : Fin 4096 → EReal := fun c => P (ix2 q c)

theorem key_congr {q q' : Fin 1024} {l l' : Fin 128} {c c' : Fin 512} (hq : q.val = q'.val) (hl : l.val = l'.val) (hc : c.val = c'.val) :
    keyHat (row P q) (kw (ix2 0 l)) c = keyHat (row P q') (kw (ix2 0 l')) c' := by
  rw [Fin.ext hq, Fin.ext hl, Fin.ext hc]

/-- The augmented keys of the block, whose first 256 rows are block `b` of their sequence. -/
def KA : FVec Ideal S1024x1024 .bf16 := fun i =>
  if (i 1).val / 128 % 2 = (i 1).val % 128 / 64
  then keyHat (row P (i 0)) (kw (ix2 0 ⟨(i 1).val % 128, by omega⟩)) ⟨64 * ((i 1).val / 128) + (i 1).val % 64, by have : (i 1).val < 1024 := (i 1).isLt; omega⟩
  else code (b + (i 0).val / 256) ((i 1).val % 64)

/-- The block means of the normed keys, each on eight rows. -/
def KM : FVec Ideal S32x512 .f32 := fun i =>
  Ideal.div (∑ q : Fin 256, keyHat (row P ⟨256 * ((i 0).val / 8) + q.val, by have : (i 0).val < 32 := (i 0).isLt; omega⟩) (kw (ix2 0 ⟨(i 1).val % 128, by omega⟩)) (i 1))
    (Ideal.ofBits .f32 0x43800000#32)

/-- The first branch's values, a head's 64 channels over sixteen rows of ones. -/
def VA : FVec Ideal S4x8x80x256 .bf16 := fun i =>
  if h : (i 2).val < 64 then P (ix2 ⟨256 * (i 0).val + (i 3).val, by have : (i 0).val < 4 := (i 0).isLt; have : (i 3).val < 256 := (i 3).isLt; omega⟩
    ⟨1024 + (64 * (i 1).val + (i 2).val), by have : (i 1).val < 8 := (i 1).isLt; omega⟩) else 1

/-- The second branch's values. -/
def VB : FVec Ideal S4x8x64x256 .bf16 := fun i =>
  P (ix2 ⟨256 * (i 0).val + (i 3).val, by have : (i 0).val < 4 := (i 0).isLt; have : (i 3).val < 256 := (i 3).isLt; omega⟩
    ⟨3072 + (64 * (i 1).val + (i 2).val), by have : (i 1).val < 8 := (i 1).isLt; have : (i 2).val < 64 := (i 2).isLt; omega⟩)

/-- The second branch's scaled queries, in their head's half of 128 rows. -/
def QB : FVec Ideal S4x8x128x256 .bf16 := fun i =>
  if (i 1).val % 2 = (i 2).val / 64 then P (ix2 ⟨256 * (i 0).val + (i 3).val, by have : (i 0).val < 4 := (i 0).isLt; have : (i 3).val < 256 := (i 3).isLt; omega⟩
    ⟨2048 + (64 * (i 1).val + (i 2).val % 64), by have : (i 1).val < 8 := (i 1).isLt; omega⟩) * Ideal.ofBits .f32 0x3E38AA3B#32 else 0

/-- The lane numbers of a pair of heads. -/
def lanes : IVec S256x128 32 := iota .tc S256x128 32 [1] iota_S256x128_d1_w32

/-- The code of block `β` in the upper lanes; -/
def hotHigh : FVec Ideal S256x128 .f32 :=
  sitofp .f32 (extui 32 (ori (cmpi .eq lanes (broadcast S256x128 (Scalar.addi 64#32 β))) (cmpi .eq lanes (broadcast S256x128 (Scalar.addi 72#32 β)))) natLt_1_32)
/-- and in the lower lanes. -/
def hotLow : FVec Ideal S256x128 .f32 :=
  sitofp .f32 (extui 32 (ori (cmpi .eq lanes (broadcast S256x128 β)) (cmpi .eq lanes (broadcast S256x128 (Scalar.addi 8#32 β)))) natLt_1_32)

theorem hot_lanes : ∀ (b : Fin 8) (l : Fin 128),
    (IntOp.ori (IntOp.cmpi .eq (BitVec.ofNat 32 l.val) (Scalar.addi 64#32 (BitVec.ofNat 32 b.val))) (IntOp.cmpi .eq (BitVec.ofNat 32 l.val) (Scalar.addi 72#32 (BitVec.ofNat 32 b.val)))
      = if 64 ≤ l.val ∧ (l.val % 64 = b.val ∨ l.val % 64 = 8 + b.val) then 1#1 else 0#1)
    ∧ (IntOp.ori (IntOp.cmpi .eq (BitVec.ofNat 32 l.val) (BitVec.ofNat 32 b.val)) (IntOp.cmpi .eq (BitVec.ofNat 32 l.val) (Scalar.addi 8#32 (BitVec.ofNat 32 b.val)))
      = if l.val < 64 ∧ (l.val % 64 = b.val ∨ l.val % 64 = 8 + b.val) then 1#1 else 0#1) := by
  decide +kernel

theorem hotHigh_eq (b : Fin 8) (q : Fin 256) (l : Fin 128) (hl : 64 ≤ l.val) : hotHigh (BitVec.ofNat 32 b.val) (ix2 q l) = code b.val (l.val % 64) := by
  pointwise [hotHigh, lanes]
  rw [(hot_lanes b l).1]
  unfold code
  by_cases h : l.val % 64 = b.val ∨ l.val % 64 = 8 + b.val
  · rw [if_pos ⟨hl, h⟩, if_pos h]; simp [FloatOps.sitofp]
  · rw [if_neg (fun k => h k.2), if_neg h]; simp [FloatOps.sitofp]

theorem hotLow_eq (b : Fin 8) (q : Fin 256) (l : Fin 128) (hl : l.val < 64) : hotLow (BitVec.ofNat 32 b.val) (ix2 q l) = code b.val (l.val % 64) := by
  pointwise [hotLow, lanes]
  rw [(hot_lanes b l).2]
  unfold code
  by_cases h : l.val % 64 = b.val ∨ l.val % 64 = 8 + b.val
  · rw [if_pos ⟨hl, h⟩, if_pos h]; simp [FloatOps.sitofp]
  · rw [if_neg (fun k => h k.2), if_neg h]; simp [FloatOps.sitofp]

/-- A pair of heads' keys, normed head by head: the second head's sum of squares is the pair's less the first's. -/
theorem key_pair (hP : ∀ i, Real' (P i)) (ρ κ : ℕ) (inb) (h0 : 512 ≤ κ) (h1 : κ % 128 = 0) (h2 : κ < 1024) (h3 : ρ ≤ 768) (q : Fin 256) (l : Fin 128) :
    k0_pay12 (k0_pay11 k0_pay2 (View.ld (Val := Elt Ideal) (e' := .bf16) P (Rect.unit (s := S1024x4096) ![ρ, κ] ![256, 128] inb))) kw (ix2 q l)
      = keyHat (row P ⟨ρ + q.val, by omega⟩) (kw (ix2 0 l)) ⟨κ - 512 + l.val, by omega⟩ := by
  pointwise [k0_pay12, k0_pay11, k0_pay2]
  simp only [select_lt]
  rw [sum_first, sum_second _ fun x => (hP _).mul (hP _)]
  have e1 : (⟨512 + (κ - 512 + l.val), by omega⟩ : Fin 4096) = ⟨κ + l.val, by omega⟩ := Fin.ext (by simp only; omega)
  unfold keyHat headSquares row
  simp only [e1]
  by_cases hl : l.val < 64
  · rw [if_pos hl]
    have e2 : ∀ j : Fin 64, (⟨512 + (64 * ((κ - 512 + l.val) / 64) + j.val), by omega⟩ : Fin 4096) = ⟨κ + j.val, by omega⟩ := fun j => Fin.ext (by simp only; omega)
    simp only [e2]
  · rw [if_neg hl]
    have e2 : ∀ j : Fin 64, (⟨512 + (64 * ((κ - 512 + l.val) / 64) + j.val), by omega⟩ : Fin 4096) = ⟨κ + (64 + j.val), by omega⟩ := fun j => Fin.ext (by simp only; omega)
    simp only [e2]

/-- A first head's augmented keys are a block of the whole; -/
theorem even_block (hP : ∀ i, Real' (P i)) (hb : b ≤ 4) (ρ γ : ℕ) (inb') (w : FVec Ideal S256x128 .bf16) (h : γ % 256 = 0 ∧ γ < 1024 ∧ ρ % 256 = 0 ∧ ρ ≤ 768)
    (hw : ∀ inb, w = k0_pay14 k0_pay2 (hotHigh (Scalar.addi (BitVec.ofNat 32 b) (BitVec.ofNat 32 (ρ / 256)))) (k0_pay11 k0_pay2 (View.ld (Val := Elt Ideal) (e' := .bf16) P (Rect.unit (s := S1024x4096) ![ρ, 512 + γ / 2] ![256, 128] inb))) kw) :
    w = View.ld (Val := Elt Ideal) (e' := .bf16) (KA P kw b) (Rect.unit (s := S1024x1024) ![ρ, γ] ![256, 128] inb') := by
  obtain ⟨h0, h1, h3, h4⟩ := h
  have inb : ∀ a : Fin S1024x4096.rank, ![ρ, 512 + γ / 2] a + ![256, 128] a ≤ S1024x4096.size a := fun a => by
    match a with
    | ⟨0, _⟩ => show ρ + 256 ≤ 1024; omega
    | ⟨1, _⟩ => show 512 + γ / 2 + 128 ≤ 4096; omega
  rw [hw inb, show Scalar.addi (BitVec.ofNat 32 b) (BitVec.ofNat 32 (ρ / 256)) = BitVec.ofNat 32 (b + ρ / 256) from (BitVec.ofNat_add ..).symm]
  funext x
  idx_vars x
  have hx0 := x0.isLt
  have hx1 := x1.isLt
  pointwise [k0_pay14, KA]
  rw [show k0_pay2 (ix2 x0 x1) = IntOp.cmpi .slt (BitVec.ofNat 32 x1.val) 64#32 by pointwise [k0_pay2], select_lt]
  by_cases hl : x1.val < 64
  · rw [if_pos hl, if_pos (by omega), key_pair P kw hP ρ (512 + γ / 2) inb (by omega) (by omega) (by omega) h4]
    exact key_congr P kw (by first | rfl | (dsimp only; omega)) (by dsimp only; omega) (by first | rfl | (dsimp only; omega))
  · rw [if_neg hl, if_neg (by omega), hotHigh_eq ⟨b + ρ / 256, by omega⟩ x0 x1 (by omega)]
    show code (b + ρ / 256) _ = _
    congr 1 <;> omega

/-- a second head's likewise. -/
theorem odd_block (hP : ∀ i, Real' (P i)) (hb : b ≤ 4) (ρ γ : ℕ) (inb') (w : FVec Ideal S256x128 .bf16) (h : γ % 256 = 128 ∧ γ < 1024 ∧ ρ % 256 = 0 ∧ ρ ≤ 768)
    (hw : ∀ inb, w = k0_pay15 k0_pay2 (hotLow (Scalar.addi (BitVec.ofNat 32 b) (BitVec.ofNat 32 (ρ / 256)))) (k0_pay11 k0_pay2 (View.ld (Val := Elt Ideal) (e' := .bf16) P (Rect.unit (s := S1024x4096) ![ρ, 448 + γ / 2] ![256, 128] inb))) kw) :
    w = View.ld (Val := Elt Ideal) (e' := .bf16) (KA P kw b) (Rect.unit (s := S1024x1024) ![ρ, γ] ![256, 128] inb') := by
  obtain ⟨h0, h1, h3, h4⟩ := h
  have inb : ∀ a : Fin S1024x4096.rank, ![ρ, 448 + γ / 2] a + ![256, 128] a ≤ S1024x4096.size a := fun a => by
    match a with
    | ⟨0, _⟩ => show ρ + 256 ≤ 1024; omega
    | ⟨1, _⟩ => show 448 + γ / 2 + 128 ≤ 4096; omega
  rw [hw inb, show Scalar.addi (BitVec.ofNat 32 b) (BitVec.ofNat 32 (ρ / 256)) = BitVec.ofNat 32 (b + ρ / 256) from (BitVec.ofNat_add ..).symm]
  funext x
  idx_vars x
  have hx0 := x0.isLt
  have hx1 := x1.isLt
  pointwise [k0_pay15, KA]
  rw [show k0_pay2 (ix2 x0 x1) = IntOp.cmpi .slt (BitVec.ofNat 32 x1.val) 64#32 by pointwise [k0_pay2], select_lt]
  by_cases hl : x1.val < 64
  · rw [if_pos hl, if_neg (by omega), hotLow_eq ⟨b + ρ / 256, by omega⟩ x0 x1 hl]
    show code (b + ρ / 256) _ = _
    congr 1 <;> omega
  · rw [if_neg hl, if_pos (by omega), key_pair P kw hP ρ (448 + γ / 2) inb (by omega) (by omega) (by omega) h4]
    exact key_congr P kw (by first | rfl | (dsimp only; omega)) (by dsimp only; omega) (by first | rfl | (dsimp only; omega))

/-- The means of a pair of heads' keys are a block of the whole. -/
theorem mean_block (hP : ∀ i, Real' (P i)) (μ γ : ℕ) (inb') (w : FVec Ideal S8x128 .f32) (h : γ % 128 = 0 ∧ γ < 512 ∧ μ % 8 = 0 ∧ μ ≤ 24)
    (hw : ∀ inb, w = k0_pay13 (k0_pay11 k0_pay2 (View.ld (Val := Elt Ideal) (e' := .bf16) P (Rect.unit (s := S1024x4096) ![32 * μ, 512 + γ] ![256, 128] inb))) kw) :
    w = View.ld (Val := Elt Ideal) (e' := .f32) (KM P kw) (Rect.unit (s := S32x512) ![μ, γ] ![8, 128] inb') := by
  obtain ⟨h0, h1, h3, h4⟩ := h
  have inb : ∀ a : Fin S1024x4096.rank, ![32 * μ, 512 + γ] a + ![256, 128] a ≤ S1024x4096.size a := fun a => by
    match a with
    | ⟨0, _⟩ => show 32 * μ + 256 ≤ 1024; omega
    | ⟨1, _⟩ => show 512 + γ + 128 ≤ 4096; omega
  rw [hw inb]
  funext x
  idx_vars x
  have hx0 := x0.isLt
  have hx1 := x1.isLt
  pointwise [k0_pay13, KM]
  congr 1
  refine Finset.sum_congr rfl fun q _ => ?_
  rw [key_pair P kw hP (32 * μ) (512 + γ) inb (by omega) (by omega) (by omega) (by omega)]
  exact key_congr P kw (by first | rfl | (dsimp only; omega)) (by dsimp only; omega) (by first | rfl | (dsimp only; omega))

/-- The first branch's values: a pair's first head, -/
theorem va_first (r h : ℕ) (inb') (w : FVec Ideal S1x1x64x256 .bf16) (e : h % 2 = 0 ∧ r < 4 ∧ h < 8)
    (hw : ∀ inb, w = k0_pay147 (View.ld (Val := Elt Ideal) (e' := .bf16) P (Rect.unit (s := S1024x4096) ![256 * r, 1024 + 64 * h] ![256, 128] inb))) :
    w = View.ld (Val := Elt Ideal) (e' := .bf16) (VA P) (Rect.unit (s := S4x8x80x256) ![r, h, 0, 0] ![1, 1, 64, 256] inb') := by
  obtain ⟨e', hr, hh⟩ := e
  have inb : ∀ a : Fin S1024x4096.rank, ![256 * r, 1024 + 64 * h] a + ![256, 128] a ≤ S1024x4096.size a := fun a => by
    match a with
    | ⟨0, _⟩ => show 256 * r + 256 ≤ 1024; omega
    | ⟨1, _⟩ => show 1024 + 64 * h + 128 ≤ 4096; omega
  rw [hw inb]
  funext x
  idx_vars x
  have hx2 := x2.isLt
  pointwise [k0_pay147, k0_pay146, VA]
  congr 2
  exact Fin.ext (by simp only; omega)
/-- its second; -/
theorem va_second (r h : ℕ) (inb') (w : FVec Ideal S1x1x64x256 .bf16) (e : h % 2 = 1 ∧ r < 4 ∧ h < 8)
    (hw : ∀ inb, w = k0_pay161 (View.ld (Val := Elt Ideal) (e' := .bf16) P (Rect.unit (s := S1024x4096) ![256 * r, 960 + 64 * h] ![256, 128] inb))) :
    w = View.ld (Val := Elt Ideal) (e' := .bf16) (VA P) (Rect.unit (s := S4x8x80x256) ![r, h, 0, 0] ![1, 1, 64, 256] inb') := by
  obtain ⟨e', hr, hh⟩ := e
  have inb : ∀ a : Fin S1024x4096.rank, ![256 * r, 960 + 64 * h] a + ![256, 128] a ≤ S1024x4096.size a := fun a => by
    match a with
    | ⟨0, _⟩ => show 256 * r + 256 ≤ 1024; omega
    | ⟨1, _⟩ => show 960 + 64 * h + 128 ≤ 4096; omega
  rw [hw inb]
  funext x
  idx_vars x
  have hx2 := x2.isLt
  pointwise [k0_pay161, k0_pay159, VA]
  congr 2
  exact Fin.ext (by simp only; omega)
/-- the second branch's, likewise. -/
theorem vb_first (r h : ℕ) (inb') (w : FVec Ideal S1x1x64x256 .bf16) (e : h % 2 = 0 ∧ r < 4 ∧ h < 8)
    (hw : ∀ inb, w = k0_pay147 (View.ld (Val := Elt Ideal) (e' := .bf16) P (Rect.unit (s := S1024x4096) ![256 * r, 3072 + 64 * h] ![256, 128] inb))) :
    w = View.ld (Val := Elt Ideal) (e' := .bf16) (VB P) (Rect.unit (s := S4x8x64x256) ![r, h, 0, 0] ![1, 1, 64, 256] inb') := by
  obtain ⟨e', hr, hh⟩ := e
  have inb : ∀ a : Fin S1024x4096.rank, ![256 * r, 3072 + 64 * h] a + ![256, 128] a ≤ S1024x4096.size a := fun a => by
    match a with
    | ⟨0, _⟩ => show 256 * r + 256 ≤ 1024; omega
    | ⟨1, _⟩ => show 3072 + 64 * h + 128 ≤ 4096; omega
  rw [hw inb]
  funext x
  idx_vars x
  have hx2 := x2.isLt
  pointwise [k0_pay147, k0_pay146, VB]
  congr 2
  exact Fin.ext (by simp only; omega)
/-- The second head's. -/
theorem vb_second (r h : ℕ) (inb') (w : FVec Ideal S1x1x64x256 .bf16) (e : h % 2 = 1 ∧ r < 4 ∧ h < 8)
    (hw : ∀ inb, w = k0_pay161 (View.ld (Val := Elt Ideal) (e' := .bf16) P (Rect.unit (s := S1024x4096) ![256 * r, 3008 + 64 * h] ![256, 128] inb))) :
    w = View.ld (Val := Elt Ideal) (e' := .bf16) (VB P) (Rect.unit (s := S4x8x64x256) ![r, h, 0, 0] ![1, 1, 64, 256] inb') := by
  obtain ⟨e', hr, hh⟩ := e
  have inb : ∀ a : Fin S1024x4096.rank, ![256 * r, 3008 + 64 * h] a + ![256, 128] a ≤ S1024x4096.size a := fun a => by
    match a with
    | ⟨0, _⟩ => show 256 * r + 256 ≤ 1024; omega
    | ⟨1, _⟩ => show 3008 + 64 * h + 128 ≤ 4096; omega
  rw [hw inb]
  funext x
  idx_vars x
  have hx2 := x2.isLt
  pointwise [k0_pay161, k0_pay159, VB]
  congr 2
  exact Fin.ext (by simp only; omega)
/-- The rows of ones. -/
theorem va_ones (r h : ℕ) (inb') :
    k0_pay97 (F := Ideal) k0_pay3 = View.ld (Val := Elt Ideal) (e' := .bf16) (VA P) (Rect.unit (s := S4x8x80x256) ![r, h, 64, 0] ![1, 1, 16, 256] inb') := by
  funext x
  idx_vars x
  pointwise [k0_pay97, k0_pay3, VA]
/-- The second branch's queries: a pair's first head, -/
theorem qb_first (r h : ℕ) (inb') (w : FVec Ideal S1x1x128x256 .bf16) (e : h % 2 = 0 ∧ r < 4 ∧ h < 8)
    (hw : ∀ inb, w = k0_pay118 k0_pay116 (k0_pay117 (View.ld (Val := Elt Ideal) (e' := .bf16) P (Rect.unit (s := S1024x4096) ![256 * r, 2048 + 64 * h] ![256, 128] inb)))) :
    w = View.ld (Val := Elt Ideal) (e' := .bf16) (QB P) (Rect.unit (s := S4x8x128x256) ![r, h, 0, 0] ![1, 1, 128, 256] inb') := by
  obtain ⟨e', hr, hh⟩ := e
  have inb : ∀ a : Fin S1024x4096.rank, ![256 * r, 2048 + 64 * h] a + ![256, 128] a ≤ S1024x4096.size a := fun a => by
    match a with
    | ⟨0, _⟩ => show 256 * r + 256 ≤ 1024; omega
    | ⟨1, _⟩ => show 2048 + 64 * h + 128 ≤ 4096; omega
  rw [hw inb]
  funext x
  idx_vars x
  have hx2 := x2.isLt
  pointwise [k0_pay118, k0_pay116, k0_pay117, QB]
  rw [select_lt]
  by_cases hl : x2.val < 64
  · rw [if_pos hl, if_pos (by omega)]
    congr 3
    exact Fin.ext (by simp only; omega)
  · rw [if_neg hl, if_neg (by omega)]
/-- its second. -/
theorem qb_second (r h : ℕ) (inb') (w : FVec Ideal S1x1x128x256 .bf16) (e : h % 2 = 1 ∧ r < 4 ∧ h < 8)
    (hw : ∀ inb, w = k0_pay133 (View.ld (Val := Elt Ideal) (e' := .bf16) P (Rect.unit (s := S1024x4096) ![256 * r, 1984 + 64 * h] ![256, 128] inb))) :
    w = View.ld (Val := Elt Ideal) (e' := .bf16) (QB P) (Rect.unit (s := S4x8x128x256) ![r, h, 0, 0] ![1, 1, 128, 256] inb') := by
  obtain ⟨e', hr, hh⟩ := e
  have inb : ∀ a : Fin S1024x4096.rank, ![256 * r, 1984 + 64 * h] a + ![256, 128] a ≤ S1024x4096.size a := fun a => by
    match a with
    | ⟨0, _⟩ => show 256 * r + 256 ≤ 1024; omega
    | ⟨1, _⟩ => show 1984 + 64 * h + 128 ≤ 4096; omega
  rw [hw inb]
  funext x
  idx_vars x
  have hx2 := x2.isLt
  pointwise [k0_pay133, k0_pay131, k0_pay130, QB]
  rw [select_lt]
  by_cases hl : x2.val < 64
  · rw [if_pos hl, if_neg (by omega)]
  · rw [if_neg hl, if_pos (by omega)]
    congr 3
    exact Fin.ext (by simp only; omega)
end blocks

/-- The point's first block of its sequence: every sequence has eight, every point four. -/
def first (t : Fin cfg0.N) : ℕ := 4 * (t.val % 2)

theorem first_le (t : Fin cfg0.N) : first t ≤ 4 := by unfold first; omega

/-- The rows that point `t` projects. -/
abbrev Pt (c : Dev nD) (t : Fin cfg0.N) : FVec Ideal S1024x4096 .bf16 := PR (iblk m c 0 t) (iblk m c 1 t) (X0_3 m c t)

theorem point4 (c : Dev nD) (t : Fin cfg0.N) (y : S1024x4096.Idx) : (outsAt0 m c t).1 y = Pt m c t y := by
  unfold outsAt0
  frame_out
  simp (disch := decide) only [↓ View.readCov_skip, ↓ View.readCov_cons_toLoadRect, products, stored]
  refine View.canon_of_blocks (Val := Elt Ideal) (e := .bf16) _ _ ?_ y (View.cover_of_tiledL _ ![512, 512] rfl y)
  repeat' (first | exact trivial | refine View.PiecesOf.cons rfl ?_)

/-- The block number the body computes is the point's. -/
theorem first_eq : ∀ t : Fin cfg0.N, (Scalar.select
    (Scalar.andi (Scalar.xori (Scalar.cmpi .slt (Scalar.remsi (Scalar.muli (BitVec.ofNat 32 (grid0.coords t 0).val) 4#32) 8#32) 0#32) 0#1)
      (Scalar.cmpi .ne (Scalar.remsi (Scalar.muli (BitVec.ofNat 32 (grid0.coords t 0).val) 4#32) 8#32) 0#32))
    (Scalar.addi (Scalar.remsi (Scalar.muli (BitVec.ofNat 32 (grid0.coords t 0).val) 4#32) 8#32) 8#32)
    (Scalar.remsi (Scalar.muli (BitVec.ofNat 32 (grid0.coords t 0).val) 4#32) 8#32)) = BitVec.ofNat 32 (first t) :=
  (by decide +kernel : ∀ t : Fin grid0.N, _)

theorem point5 (c : Dev nD) (t : Fin cfg0.N) (hP : ∀ i, Real' (Pt m c t i)) (y : S1024x1024.Idx) : (outsAt0 m c t).2.1 y = KA (Pt m c t) (iblk m c 2 t) (first t) y := by
  unfold outsAt0
  frame_out
  simp (disch := decide) only [↓ View.readCov_skip, ↓ View.readCov_cons_toLoadRect, products, stored, View.readCov_inside, first_eq]
  refine View.canon_of_blocks (Val := Elt Ideal) (e := .bf16) _ _ ?_ y (View.cover_of_tiledL _ ![256, 128] rfl y)
  repeat' (first | exact trivial | refine View.PiecesOf.cons ?_ ?_)
  all_goals first | (refine even_block _ _ _ hP (first_le t) _ _ _ _ ?_ ?_; decide; exact fun _ => rfl) | (refine odd_block _ _ _ hP (first_le t) _ _ _ _ ?_ ?_; decide; exact fun _ => rfl)

theorem point6 (c : Dev nD) (t : Fin cfg0.N) (hP : ∀ i, Real' (Pt m c t i)) (y : S32x512.Idx) : (outsAt0 m c t).2.2.1 y = KM (Pt m c t) (iblk m c 2 t) y := by
  unfold outsAt0
  frame_out
  simp (disch := decide) only [↓ View.readCov_skip, ↓ View.readCov_cons_toLoadRect, products, stored, View.readCov_inside]
  refine View.canon_of_blocks (Val := Elt Ideal) (e := .f32) _ _ ?_ y (View.cover_of_tiledL _ ![8, 128] rfl y)
  repeat' (first | exact trivial | refine View.PiecesOf.cons ?_ ?_)
  all_goals first | (refine mean_block _ _ hP _ _ _ _ ?_ ?_; decide; exact fun _ => rfl)

theorem point7 (c : Dev nD) (t : Fin cfg0.N) (y : S4x8x80x256.Idx) : (outsAt0 m c t).2.2.2.1 y = VA (Pt m c t) y := by
  unfold outsAt0
  frame_out
  simp (disch := decide) only [↓ View.readCov_skip, ↓ View.readCov_cons_toLoadRect, products, stored, View.readCov_inside]
  refine View.canon_of_blocks (Val := Elt Ideal) (e := .bf16) _ _ ?_ y (View.cover_of_tiledBy _ ![1, 1, 16, 256] (by sl_kernel_rfl) y)
  repeat' (first | exact trivial | refine View.PiecesOf.cons ?_ ?_)
  all_goals first | exact va_ones _ _ _ _ | (refine va_first _ _ _ _ _ ?_ ?_; decide; exact fun _ => rfl) | (refine va_second _ _ _ _ _ ?_ ?_; decide; exact fun _ => rfl)

theorem point8 (c : Dev nD) (t : Fin cfg0.N) (y : S4x8x64x256.Idx) : (outsAt0 m c t).2.2.2.2.1 y = VB (Pt m c t) y := by
  unfold outsAt0
  frame_out
  simp (disch := decide) only [↓ View.readCov_skip, ↓ View.readCov_cons_toLoadRect, products, stored, View.readCov_inside]
  refine View.canon_of_blocks (Val := Elt Ideal) (e := .bf16) _ _ ?_ y (View.cover_of_tiledL _ ![1, 1, 64, 256] rfl y)
  repeat' (first | exact trivial | refine View.PiecesOf.cons ?_ ?_)
  all_goals first | (refine vb_first _ _ _ _ _ ?_ ?_; decide; exact fun _ => rfl) | (refine vb_second _ _ _ _ _ ?_ ?_; decide; exact fun _ => rfl)

theorem point9 (c : Dev nD) (t : Fin cfg0.N) (y : S4x8x128x256.Idx) : (outsAt0 m c t).2.2.2.2.2 y = QB (Pt m c t) y := by
  unfold outsAt0
  frame_out
  simp (disch := decide) only [↓ View.readCov_skip, ↓ View.readCov_cons_toLoadRect, products, stored, View.readCov_inside]
  refine View.canon_of_blocks (Val := Elt Ideal) (e := .bf16) _ _ ?_ y (View.cover_of_tiledL _ ![1, 1, 128, 256] rfl y)
  repeat' (first | exact trivial | refine View.PiecesOf.cons ?_ ?_)
  all_goals first | (refine qb_first _ _ _ _ _ ?_ ?_; decide; exact fun _ => rfl) | (refine qb_second _ _ _ _ _ ?_ ?_; decide; exact fun _ => rfl)

end Cert.KernelIdeal.Proj
-- ==== Proof.ProjReference.lean ====
/- The reference's six arrays, as functions of its arguments. -/
module
public import proofs.«01_k».proof.Proof.ProjRows
public import proofs.«01_k».proof.Proof.Gen.ReferenceIdeal.Read

@[expose] public section
set_option maxRecDepth 16384
noncomputable section
open Idealize.ShloMosaic Idealize.ShloMosaic.TcCoe Idealize.SL.Sem

namespace Cert.ReferenceIdeal.Proj
open Cert.ReferenceIdeal Cert.ReferenceIdeal.Gen Cert.ReferenceIdeal.Read Cert.ProjRows
variable (x0 : FVec Ideal S32768x1024 .f32) (x1 : FVec Ideal S1x1024 .f32) (x2 : FVec Ideal S64 .f32) (x3 : FVec Ideal S1024x6144 .bf16)

/-- One projected row: the normed input row against the first 4096 columns of the weights. -/
def projectedRow (R : Fin 32768) : Fin 4096 → EReal := fun n =>
  ∑ k, normed (fun l => x0 (ix2 R l)) (fun l => x1 (ix2 0 l)) k * x3 (ix2 k ⟨n.val, by omega⟩)

variable {x0 x1 x3} in
theorem row_congr {R R' : Fin 32768} {n n' : Fin 4096} (hR : R.val = R'.val) (hn : n.val = n'.val) :
    projectedRow x0 x1 x3 R n = projectedRow x0 x1 x3 R' n' := by
  rw [Fin.ext hR, Fin.ext hn]

variable {x0 x1 x3} in
theorem hat_congr {R R' : Fin 32768} {w w' : EReal} {n n' : Fin 512} (hR : R.val = R'.val) (hw : w = w') (hn : n.val = n'.val) :
    keyHat (projectedRow x0 x1 x3 R) w n = keyHat (projectedRow x0 x1 x3 R') w' n' := by
  rw [Fin.ext hR, hw, Fin.ext hn]

/-- The projected rows. -/
def projected : FVec Ideal S32768x4096 .bf16 := fun i => projectedRow x0 x1 x3 (i 0) (i 1)

/-- The augmented keys; a sequence has eight blocks of 256 rows. -/
def keys : FVec Ideal S32768x1024 .bf16 := fun i => augmented (projectedRow x0 x1 x3 (i 0)) (fun l => x2 (ix1 l)) ((i 0).val / 256 % 8) (i 1)

/-- The block means of the normed keys, each on eight rows. -/
def means : FVec Ideal S1024x512 .f32 := fun i =>
  Ideal.div (∑ q : Fin 256, keyHat (projectedRow x0 x1 x3 ⟨256 * ((i 0).val / 8) + q.val, by have : (i 0).val < 1024 := (i 0).isLt; omega⟩)
    (x2 (ix1 ⟨(i 1).val % 64, by omega⟩)) (i 1)) (Ideal.ofBits .f32 0x43800000#32)

/-- The first branch's values over rows of ones. -/
def valuesA : FVec Ideal S128x8x80x256 .bf16 := fun i =>
  if h : (i 2).val < 64 then projectedRow x0 x1 x3 ⟨256 * (i 0).val + (i 3).val, by have : (i 0).val < 128 := (i 0).isLt; have : (i 3).val < 256 := (i 3).isLt; omega⟩
    ⟨1024 + (64 * (i 1).val + (i 2).val), by have : (i 1).val < 8 := (i 1).isLt; omega⟩ else 1

/-- The second branch's values. -/
def valuesB : FVec Ideal S128x8x64x256 .bf16 := fun i =>
  projectedRow x0 x1 x3 ⟨256 * (i 0).val + (i 3).val, by have : (i 0).val < 128 := (i 0).isLt; have : (i 3).val < 256 := (i 3).isLt; omega⟩
    ⟨3072 + (64 * (i 1).val + (i 2).val), by have : (i 1).val < 8 := (i 1).isLt; have : (i 2).val < 64 := (i 2).isLt; omega⟩

/-- The second branch's scaled queries, in their head's half of 128 rows. -/
def queriesB : FVec Ideal S128x8x128x256 .bf16 := fun i =>
  if (i 1).val % 2 = (i 2).val / 64 then
    projectedRow x0 x1 x3 ⟨256 * (i 0).val + (i 3).val, by have : (i 0).val < 128 := (i 0).isLt; have : (i 3).val < 256 := (i 3).isLt; omega⟩
      ⟨2048 + (64 * (i 1).val + (i 2).val % 64), by have : (i 1).val < 8 := (i 1).isLt; omega⟩ * Ideal.ofBits .f32 0x3E38AA3B#32
  else 0

/-- The product is the projected rows. -/
theorem product (R : Fin 32768) (n : Fin 4096) : val_main_v14 (F := Ideal) x0 x1 x3 (ix2 R n) = projectedRow x0 x1 x3 R n := by
  pointwise [val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, projectedRow, normed]

theorem projected_eq : val_main_v91 (F := Ideal) x0 x1 x3 = projected x0 x1 x3 := by
  funext i
  idx_vars i
  pointwise [val_main_v91, projected]
  exact product ..

/-- Dividing by 64 is multiplying by its reciprocal. -/
theorem div_64 (y : EReal) : Ideal.div y (Ideal.ofBits .f32 0x42800000#32) = y * Ideal.ofBits .f32 0x3C800000#32 := by
  have h : Ideal.ofBits .f32 0x42800000#32 = ((64 : ℝ) : EReal) := by simp [Ideal.ofBits, Ideal.ieee, -EReal.coe_mul]; norm_num
  have h' : Ideal.ofBits .f32 0x3C800000#32 = ((1 / 64 : ℝ) : EReal) := by simp [Ideal.ofBits, Ideal.ieee, -EReal.coe_mul]; norm_num
  rw [h, h']
  exact Ideal.div_coe (by norm_num) y

/-- The reference's normed keys. -/
theorem normedKeys (R : Fin 32768) (h : Fin 8) (d : Fin 64) : val_main_v36 (F := Ideal) x0 x1 x2 x3 (ix3 R h d)
    = keyHat (projectedRow x0 x1 x3 R) (x2 (ix1 d)) ⟨64 * h.val + d.val, by omega⟩ := by
  pointwise [val_main_v36, val_main_v35, val_main_v34, val_main_v33, val_main_v32, val_main_v31, val_main_v30, val_main_v29, val_main_v28, val_main_v27,
    val_main_v26, val_main_v25, val_main_v24, val_main_v23, val_main_v16, val_main_cst_2, val_main_cst_3, val_main_cst_4]
  simp only [product, div_64]
  unfold keyHat headSquares
  reads_congr
  · exact Fin.ext (by dsimp only; omega)
  · exact Fin.ext (by dsimp only; omega)

theorem valuesA_eq : val_main_v93 (F := Ideal) x0 x1 x3 = valuesA x0 x1 x3 := by
  funext i
  idx_vars i
  pointwise [val_main_v93, val_main_v74, val_main_v73, val_main_v72, val_main_v71, val_main_v17, val_main_cst_7, valuesA]
  simp only [product]
  split
  · exact row_congr (by dsimp only; omega) (by dsimp only; omega)
  · rfl

theorem valuesB_eq : val_main_v96 (F := Ideal) x0 x1 x3 = valuesB x0 x1 x3 := by
  funext i
  idx_vars i
  pointwise [val_main_v96, val_main_v95, val_main_v94, val_main_v21, valuesB]
  simp only [product]
  exact row_congr (by dsimp only; omega) (by dsimp only; omega)

theorem queriesB_own (i0 : Fin 128) (i1 : Fin 8) (i2 : Fin 128) (i3 : Fin 256) (e : i1.val % 2 = i2.val / 64) : queriesB x0 x1 x3 (ix4 i0 i1 i2 i3)
    = projectedRow x0 x1 x3 ⟨256 * i0.val + i3.val, by omega⟩ ⟨2048 + (64 * i1.val + i2.val % 64), by omega⟩ * Ideal.ofBits .f32 0x3E38AA3B#32 := if_pos e
theorem queriesB_other (i0 : Fin 128) (i1 : Fin 8) (i2 : Fin 128) (i3 : Fin 256) (e : ¬ i1.val % 2 = i2.val / 64) : queriesB x0 x1 x3 (ix4 i0 i1 i2 i3) = 0 := if_neg e

theorem queriesB_eq : val_main_v97 (F := Ideal) x0 x1 x3 = queriesB x0 x1 x3 := by
  funext i
  idx_vars i
  pointwise [val_main_v97, val_main_v90, val_main_v89, val_main_v88, val_main_v87, val_main_v86, val_main_v85, val_main_v84, val_main_v83, val_main_v82, val_main_v81, val_main_v80, val_main_v79, val_main_v78, val_main_v77, val_main_v76, val_main_v75, val_main_v19, val_main_cst_8, val_main_cst_9]
  simp only [product]
  have h1 := i1.isLt
  have h2 := i2.isLt
  by_cases e : i1.val % 2 = i2.val / 64
  · refine Eq.trans ?_ (queriesB_own x0 x1 x3 i0 i1 i2 i3 e).symm
    by_cases f : i1.val % 2 * 2 + i2.val / 64 < 1
    · refine (dif_pos f).trans ?_
      exact congrArg (fun z : EReal => z * Ideal.ofBits .f32 0x3E38AA3B#32) (row_congr (by dsimp only; omega) (by dsimp only; omega))
    · refine (dif_neg f).trans ((dif_neg (by omega)).trans ((dif_neg (by omega)).trans ?_))
      exact congrArg (fun z : EReal => z * Ideal.ofBits .f32 0x3E38AA3B#32) (row_congr (by dsimp only; omega) (by dsimp only; omega))
  · refine Eq.trans ?_ (queriesB_other x0 x1 x3 i0 i1 i2 i3 e).symm
    refine (dif_neg (by omega)).trans ?_
    by_cases f : i1.val % 2 * 2 + i2.val / 64 - 1 < 1
    · exact dif_pos f
    · exact (dif_neg f).trans (dif_pos (by omega))

theorem means_eq : val_main_v43 (F := Ideal) x0 x1 x2 x3 = means x0 x1 x2 x3 := by
  funext i
  idx_vars i
  pointwise [val_main_v43, val_main_v42, val_main_v41, val_main_v40, val_main_v39, val_main_v38, val_main_v37, val_main_cst_5, val_main_cst_6, means]
  simp only [normedKeys]
  exact congrArg (Ideal.div · _) (Finset.sum_congr rfl fun q _ => hat_congr (by dsimp only; omega) rfl (by dsimp only; omega))

theorem code_lanes : ∀ (b : Fin 8) (l : Fin 64), val_main_v56 (F := Ideal) (ix2 b l) = if l.val = b.val ∨ l.val = 8 + b.val then 1#1 else 0#1 := by
  intro b l
  pointwise [val_main_v56, val_main_v55, val_main_v54, val_main_v53, val_main_v52, val_main_v51, val_main_c, val_main_v50, val_main_v49, val_main_v48, val_main_v47, val_main_v46, val_main_v45, val_main_v44]
  revert b l
  decide +kernel

theorem code_eq (b l : ℕ) (hb : b < 8) (hl : l < 64) : FloatOps.uitofp (F := Ideal) FTy.f32 (val_main_v56 (F := Ideal) (ix2 ⟨b, hb⟩ ⟨l, hl⟩)) = code b l := by
  rw [code_lanes]
  unfold code
  dsimp only
  split <;> simp [FloatOps.uitofp]

theorem keys_own (i0 : Fin 32768) (i1 : Fin 1024) (e : i1.val / 128 % 2 = i1.val % 128 / 64) : keys x0 x1 x2 x3 (ix2 i0 i1)
    = keyHat (projectedRow x0 x1 x3 i0) (x2 (ix1 ⟨i1.val % 64, by omega⟩)) ⟨64 * (i1.val / 128) + i1.val % 64, by omega⟩ := if_pos e
theorem keys_other (i0 : Fin 32768) (i1 : Fin 1024) (e : ¬ i1.val / 128 % 2 = i1.val % 128 / 64) : keys x0 x1 x2 x3 (ix2 i0 i1)
    = code (i0.val / 256 % 8) (i1.val % 64) := if_neg e

theorem keys_eq : val_main_v92 (F := Ideal) x0 x1 x2 x3 = keys x0 x1 x2 x3 := by
  funext i
  idx_vars i
  pointwise [val_main_v92, val_main_v70, val_main_v69, val_main_v68, val_main_v67, val_main_v66, val_main_v65, val_main_v64, val_main_v63, val_main_v62, val_main_v61, val_main_v60, val_main_v59, val_main_v58, val_main_v57]
  simp only [normedKeys]
  have h1 := i1.isLt
  by_cases e : i1.val / 128 % 2 = i1.val % 128 / 64
  · refine Eq.trans ?_ (keys_own x0 x1 x2 x3 i0 i1 e).symm
    by_cases f : i1.val / 64 % 4 < 1
    · exact (dif_pos f).trans (hat_congr rfl rfl (by dsimp only; omega))
    · exact (dif_neg f).trans ((dif_neg (by omega)).trans ((dif_neg (by omega)).trans (hat_congr rfl rfl (by dsimp only; omega))))
  · refine Eq.trans ?_ (keys_other x0 x1 x2 x3 i0 i1 e).symm
    refine (dif_neg (by omega)).trans ?_
    by_cases f : i1.val / 64 % 4 - 1 < 1
    · exact (dif_pos f).trans (code_eq ..)
    · exact (dif_neg f).trans ((dif_pos (by omega)).trans (code_eq ..))

end Cert.ReferenceIdeal.Proj
-- ==== Proof.ProjFinal.lean ====
/- The projecting kernel's six arrays after the run, as functions of its arguments. -/
module
public import proofs.«01_k».proof.Proof.ProjPoint
public import proofs.«01_k».proof.Proof.ProjReference

@[expose] public section
set_option maxRecDepth 16384
noncomputable section
open Idealize.ShloMosaic Idealize.ShloMosaic.TcCoe Idealize.SL.Sem

namespace Cert.KernelIdeal.Proj
open Cert.KernelIdeal Cert.KernelIdeal.Gen Cert.ProjRows Cert.Finite
open Cert.ReferenceIdeal.Proj (projectedRow projected keys means valuesA valuesB queriesB)
variable (m : (ℓ : Loc nD τ sig) → Buf (Elt Ideal) ℓ)

/-- Which block of each array every grid point sees. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0, 0, 0] ∧ win0_8.index t = ![t.val, 0, 0, 0] ∧ win0_9.index t = ![t.val, 0, 0, 0] :=
  (by decide +kernel : ∀ t : Fin grid0.N, _)

/-- The weights' window holds the first 4096 columns of the weights. -/
theorem weights (c : Dev nD) (t : Fin cfg0.N) (k : Fin 1024) (n : Fin 4096) :
    X0_3 m c t (ix2 k n) = m ((c : Thread nD τ).loc main_arg3) (ix2 k ⟨n.val, by omega⟩) := by
  unfold X0_3 Pipeline.Window.fill
  rw [dif_pos (moved0_3 t _)]
  blk_ext [iblk, V, idx t]

theorem lt_points (t : Fin cfg0.N) : t.val < 32 := t.isLt

/-- The block's projected rows are rows of the whole. -/
theorem rows (c : Dev nD) (t : Fin cfg0.N) (q : Fin 1024) (n : Fin 4096) :
    Pt m c t (ix2 q n) = projectedRow (m ((c : Thread nD τ).loc main_arg0)) (m ((c : Thread nD τ).loc main_arg1)) (m ((c : Thread nD τ).loc main_arg3))
      ⟨1024 * t.val + q.val, by have := lt_points t; omega⟩ n := by
  unfold Pt PR projectedRow
  pointwise [normed]
  simp only [weights]
  blk_point [iblk, V, idx t]

/-- The key weights, tiled over a pair of heads. -/
theorem keyWeights (c : Dev nD) (t : Fin cfg0.N) (l : Fin 128) :
    iblk m c 2 t (ix2 0 l) = m ((c : Thread nD τ).loc main_arg2) (ix1 ⟨l.val % 64, by omega⟩) := by
  blk_simp [iblk]
  entry_read
  pointwise
  blk_ext [idx t]

theorem rows_eq (c : Dev nD) (t : Fin cfg0.N) (q : Fin 1024) : row (Pt m c t) q
    = projectedRow (m ((c : Thread nD τ).loc main_arg0)) (m ((c : Thread nD τ).loc main_arg1)) (m ((c : Thread nD τ).loc main_arg3))
      ⟨1024 * t.val + q.val, by have := lt_points t; omega⟩ :=
  funext fun n => rows m c t q n

open Cert.ReferenceIdeal.Proj (row_congr hat_congr)

theorem final4 (c : Dev nD) : (dats m 0 c).arrAt 4 (cfgs 0).N
    = projected (m ((c : Thread nD τ).loc main_arg0)) (m ((c : Thread nD τ).loc main_arg1)) (m ((c : Thread nD τ).loc main_arg3)) := by
  refine (dats m 0 c).arrAt_eq_of_covers 4 _ (by decide +kernel) fun t hf y => ?_
  idx_vars y
  blk_simp
  have ht := lt_points t
  have he : ((View.whole main_v4_0).slice (win0_4.rect t)).emb (ix2 y0 y1) = ix2 ⟨1024 * t.val + y0.val, by omega⟩ y1 := by blk_ext [idx t]
  rw [after0_4, point4 m c t _, he]
  exact rows m c t y0 y1

theorem final5 (c : Dev nD) (hP : ∀ t i, Real' (Pt m c t i)) : (dats m 0 c).arrAt 5 (cfgs 0).N
    = keys (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  idx_vars y
  blk_simp
  have ht := lt_points t
  have he : ((View.whole main_v4_1).slice (win0_5.rect t)).emb (ix2 y0 y1) = ix2 ⟨1024 * t.val + y0.val, by omega⟩ y1 := by blk_ext [idx t]
  rw [after0_5, point5 m c t (hP t) _, he]
  unfold KA keys augmented
  refine if_congr Iff.rfl ?_ ?_
  · rw [keyWeights]
    refine (congrArg (fun r => keyHat r _ _) (rows_eq m c t y0)).trans (hat_congr rfl ?_ rfl)
    exact congrArg (fun l => m ((c : Thread nD τ).loc main_arg2) (ix1 l)) (Fin.ext (by show y1.val % 128 % 64 = y1.val % 64; omega))
  · show code (first t + y0.val / 256) (y1.val % 64) = code ((1024 * t.val + y0.val) / 256 % 8) (y1.val % 64)
    rw [show first t + y0.val / 256 = (1024 * t.val + y0.val) / 256 % 8 by unfold first; omega]

theorem final6 (c : Dev nD) (hP : ∀ t i, Real' (Pt m c t i)) : (dats m 0 c).arrAt 6 (cfgs 0).N
    = means (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  idx_vars y
  blk_simp
  have ht := lt_points t
  have he : ((View.whole main_v4_2).slice (win0_6.rect t)).emb (ix2 y0 y1) = ix2 ⟨32 * t.val + y0.val, by omega⟩ y1 := by blk_ext [idx t]
  rw [after0_6, point6 m c t (hP t) _, he]
  unfold KM means
  refine congrArg (fun z => Ideal.div z _) (Finset.sum_congr rfl fun q _ => ?_)
  rw [keyWeights, rows_eq]
  refine hat_congr ?_ ?_ rfl
  · show 1024 * t.val + (256 * (y0.val / 8) + q.val) = 256 * ((32 * t.val + y0.val) / 8) + q.val
    omega
  · exact congrArg (fun l => m ((c : Thread nD τ).loc main_arg2) (ix1 l)) (Fin.ext (by show y1.val % 128 % 64 = y1.val % 64; omega))

theorem final7 (c : Dev nD) : (dats m 0 c).arrAt 7 (cfgs 0).N
    = valuesA (m ((c : Thread nD τ).loc main_arg0)) (m ((c : Thread nD τ).loc main_arg1)) (m ((c : Thread nD τ).loc main_arg3)) := by
  refine (dats m 0 c).arrAt_eq_of_covers 7 _ (by decide +kernel) fun t hf y => ?_
  idx_vars y
  blk_simp
  have ht := lt_points t
  have he : ((View.whole main_v4_3).slice (win0_7.rect t)).emb (ix4 y0 y1 y2 y3) = ix4 ⟨4 * t.val + y0.val, by omega⟩ y1 y2 y3 := by blk_ext [idx t]
  rw [after0_7, point7 m c t _, he]
  unfold VA valuesA
  refine dite_congr rfl (fun h => ?_) fun _ => rfl
  refine (rows m c t _ _).trans (row_congr ?_ rfl)
  show 1024 * t.val + (256 * y0.val + y3.val) = 256 * (4 * t.val + y0.val) + y3.val
  omega

theorem final8 (c : Dev nD) : (dats m 0 c).arrAt 8 (cfgs 0).N
    = valuesB (m ((c : Thread nD τ).loc main_arg0)) (m ((c : Thread nD τ).loc main_arg1)) (m ((c : Thread nD τ).loc main_arg3)) := by
  refine (dats m 0 c).arrAt_eq_of_covers 8 _ (by decide +kernel) fun t hf y => ?_
  idx_vars y
  blk_simp
  have ht := lt_points t
  have he : ((View.whole main_v4_4).slice (win0_8.rect t)).emb (ix4 y0 y1 y2 y3) = ix4 ⟨4 * t.val + y0.val, by omega⟩ y1 y2 y3 := by blk_ext [idx t]
  rw [after0_8, point8 m c t _, he]
  unfold VB valuesB
  refine (rows m c t _ _).trans (row_congr ?_ rfl)
  show 1024 * t.val + (256 * y0.val + y3.val) = 256 * (4 * t.val + y0.val) + y3.val
  omega

theorem final9 (c : Dev nD) : (dats m 0 c).arrAt 9 (cfgs 0).N
    = queriesB (m ((c : Thread nD τ).loc main_arg0)) (m ((c : Thread nD τ).loc main_arg1)) (m ((c : Thread nD τ).loc main_arg3)) := by
  refine (dats m 0 c).arrAt_eq_of_covers 9 _ (by decide +kernel) fun t hf y => ?_
  idx_vars y
  blk_simp
  have ht := lt_points t
  have he : ((View.whole main_v4_5).slice (win0_9.rect t)).emb (ix4 y0 y1 y2 y3) = ix4 ⟨4 * t.val + y0.val, by omega⟩ y1 y2 y3 := by blk_ext [idx t]
  rw [after0_9, point9 m c t _, he]
  unfold QB queriesB
  refine if_congr Iff.rfl ?_ rfl
  refine congrArg (fun z : EReal => z * Ideal.ofBits .f32 0x3E38AA3B#32) ((rows m c t _ _).trans (row_congr ?_ rfl))
  show 1024 * t.val + (256 * y0.val + y3.val) = 256 * (4 * t.val + y0.val) + y3.val
  omega

/-- From finite arguments the projected rows are finite: a mean of squares plus the positive ε has a finite reciprocal root. -/
theorem finite_row (x0 : FVec Ideal S32768x1024 .f32) (x1 : FVec Ideal S1x1024 .f32) (x3 : FVec Ideal S1024x6144 .bf16)
    (h0 : ∀ i, Real' (x0 i)) (h1 : ∀ i, Real' (x1 i)) (h3 : ∀ i, Real' (x3 i)) (R : Fin 32768) (n : Fin 4096) : Real' (projectedRow x0 x1 x3 R n) := by
  refine Real'.sum _ _ fun k => Real'.mul (Real'.mul (Real'.mul (h0 _) ?_) (h1 _)) (h3 _)
  obtain ⟨r, hr, e⟩ := squares Finset.univ (fun l => x0 (ix2 R l)) fun l => h0 _
  have a : Ideal.ofBits .f32 0x44800000#32 = ((1024 : ℝ) : EReal) := by simp [Ideal.ofBits, Ideal.ieee, -EReal.coe_mul]; norm_num
  obtain ⟨ε, hε, b⟩ := epsilon
  rw [e, a, b, Ideal.div_coe (by norm_num), ← EReal.coe_mul, ← EReal.coe_add]
  exact Real'.rsqrt (by positivity)

theorem finite_block (c : Dev nD) (h0 : ∀ i, Real' (m ((c : Thread nD τ).loc main_arg0) i)) (h1 : ∀ i, Real' (m ((c : Thread nD τ).loc main_arg1) i))
    (h3 : ∀ i, Real' (m ((c : Thread nD τ).loc main_arg3) i)) (t : Fin cfg0.N) (i : S1024x4096.Idx) : Real' (Pt m c t i) := by
  idx_vars i
  rw [rows]
  exact finite_row _ _ _ h0 h1 h3 _ _

end Cert.KernelIdeal.Proj
-- ==== Proof.MergeRows.lean ====
/- The merge of the two branches, written once as a function of one row of the input: the mean-square normalised row, the two gate logits,
   the gated sum of the two up-projections, and the output projection with the residual. Both the kernel's blocks and the reference's
   array are this function row by row. -/
module
public import Idealize.ShloMosaic.Lib.Pointwise
public import Idealize.ShloMosaic.Lib.Pipeline.ReadBack
public import Idealize.ShloMosaic.Lib.Ring

@[expose] public section
set_option maxRecDepth 16384

noncomputable section
namespace Cert.MergeRows
open Idealize.ShloMosaic Idealize.ShloMosaic.TcCoe Idealize.SL.Sem

/-- The normalised row: `x · rsqrt (mean x² + ε) · w`. -/
def normed (x w : Fin 1024 → EReal) (k : Fin 1024) : EReal :=
  x k * Ideal.rsqrt (Ideal.div (∑ l, x l * x l) (Ideal.ofBits .f32 0x44800000#32) + Ideal.ofBits .f32 0x358637BD#32) * w k

/-- One gate logit of the row: the normalised row against one column of the gate weights, plus that gate's bias. -/
def logit (h : Fin 1024 → EReal) (wg : Fin 1024 → Fin 2048 → EReal) (b : Fin 2048 → EReal) (g : Fin 2048) : EReal :=
  (∑ k, h k * wg k g) + b g

/-- An up-projection of the row divided by `1 + e^(-g)`. -/
def gated (u : Fin 512 → EReal) (w : Fin 512 → Fin 1024 → EReal) (g : EReal) (c : Fin 1024) : EReal :=
  Ideal.div (∑ k, u k * w k c) (1 + Ideal.exp (0 - g))

/-- The gated sum of the two branches at column `c`; the second gate's columns are the last 1024. -/
def mixed (h : Fin 1024 → EReal) (wg : Fin 1024 → Fin 2048 → EReal) (b : Fin 2048 → EReal)
    (ua ub : Fin 512 → EReal) (wa wb : Fin 512 → Fin 1024 → EReal) (c : Fin 1024) : EReal :=
  gated ua wa (logit h wg b ⟨c.val, by omega⟩) c + gated ub wb (logit h wg b ⟨1024 + c.val, by omega⟩) c

theorem one_add_exp_ne_zero (x : EReal) : (1 : EReal) + Ideal.exp x ≠ 0 := by
  induction x using EReal.rec with
  | bot => rw [Ideal.exp_bot, add_zero]; exact one_ne_zero
  | top => rw [Ideal.exp_top, EReal.add_top_of_ne_bot (show (1 : EReal) ≠ ⊥ from EReal.coe_ne_bot 1)]; exact EReal.top_ne_zero
  | coe r =>
    rw [show Ideal.exp (r : EReal) = ((Real.exp r : ℝ) : EReal) from rfl, ← EReal.coe_one, ← EReal.coe_add]
    exact fun h => absurd (EReal.coe_eq_zero.mp h) (by positivity)

/-- Dividing by `1 + e^(0 - g)` is multiplying by the sigmoid `1 / (1 + e^(-g))`, at every extended real. -/
theorem div_sigmoid (y g : EReal) :
    Ideal.div 1 (1 + Ideal.exp (-g)) * y = Ideal.div y (1 + Ideal.exp (0 - g)) := by
  have h0 : (0 : EReal) - g = -g := by rw [sub_eq_add_neg, zero_add]
  rw [h0]
  simp only [Ideal.div, if_neg (one_add_exp_ne_zero (-g)), one_mul]
  exact mul_comm _ _

end Cert.MergeRows

namespace Idealize.ShloMosaic.View
open Idealize.ShloMosaic

variable {s : Shape} {e : EltTy} {Val : EltTy → Type}

/-- A covered load of a buffer whose stores are all blocks of `G` reads `G`. -/
theorem readCov_of_blocks [∀ e, Nonempty (Val e)] {sig : RefSig} {κ : Kind} {sp : Space} (v : View sig κ sp s e) (G : s.Idx → Val e)
    (L : List (Piece Val s e)) (r : Rect s) (h : PiecesOf G L) (hc : ∀ x, ∃ p ∈ L, r.emb x ∈ p.1.set) :
    v.readCov L r.toLoadRect = ld G r := by
  rw [readCov_eq_canon']
  funext x
  have := canon_append_of_piecesOf G [] L h (r.emb x) (hc x)
  rw [List.append_nil] at this
  exact this

end Idealize.ShloMosaic.View
-- ==== Proof.MergePoint.lean ====
/- What one grid point of the merge kernel stores, row by row. -/
module
public import proofs.«01_k».proof.Proof.Gen.Kernel2Ideal.Value
public import proofs.«01_k».proof.Proof.MergeRows
public import Idealize.ShloMosaic.Lib.Pipeline.ValueKit

@[expose] public section
set_option maxRecDepth 16384
noncomputable section
namespace Cert.Kernel2Ideal.Merge
open Cert.Kernel2Ideal Cert.Kernel2Ideal.Gen Idealize.ShloMosaic Idealize.ShloMosaic.TcCoe Idealize.SL.Sem Cert.MergeRows

variable (m : (ℓ : Loc nD τ sig) → Buf (Elt Ideal) ℓ)
variable (x0 : FVec Ideal S1024x1024 .f32) (x1 x2 : FVec Ideal S1024x512 .bf16) (x3 : FVec Ideal S1x1024 .f32)
  (x4 : FVec Ideal S1x2048 .f32) (x5 : FVec Ideal S1024x2048 .bf16) (x6 x7 : FVec Ideal S512x1024 .bf16) (x8 : FVec Ideal S1024x1024 .bf16)

/-- The normalised rows of a block. -/
def H : FVec Ideal S1024x1024 .bf16 := fun i => normed (fun k => x0 (ix2 (i 0) k)) (fun k => x3 (ix2 0 k)) (i 1)

/-- The gated sum of the two branches over a block. -/
def Y : FVec Ideal S1024x1024 .bf16 := fun i =>
  mixed (fun k => H x0 x3 (ix2 (i 0) k)) (fun k g => x5 (ix2 k g)) (fun g => x4 (ix2 0 g))
    (fun k => x1 (ix2 (i 0) k)) (fun k => x2 (ix2 (i 0) k)) (fun k c => x6 (ix2 k c)) (fun k c => x7 (ix2 k c)) (i 1)

/-- The merged block. -/
def O : FVec Ideal S1024x1024 .f32 := fun i =>
  x0 i + ∑ k, Y x0 x1 x2 x3 x4 x5 x6 x7 (ix2 (i 0) k) * x8 (ix2 k (i 1))

/-- Rows 0 to 511 are covered by the two pieces of 512 columns. -/
theorem top_half (w w' : FVec Ideal S512x512 .bf16) (x : S512x1024.Idx) :
    ∃ p ∈ ([⟨Rect.unit ![0, 512] ![512, 512] inb_S1024x1024_S512x512_0_512, w⟩, ⟨Rect.unit ![0, 0] ![512, 512] inb_S1024x1024_S512x512_0_0, w'⟩] :
      List (View.Piece (Elt Ideal) S1024x1024 .bf16)), (Rect.unit ![0, 0] ![512, 1024] inb_S1024x1024_S512x1024_0_0).emb x ∈ p.1.set := by
  have hx0 : (x 0).val < 512 := (x 0).isLt
  have hx1 : (x 1).val < 1024 := (x 1).isLt
  by_cases h : (x 1).val < 512
  · refine ⟨_, List.mem_cons_of_mem _ (List.mem_singleton_self _), (Rect.mem_set_unit (inb := inb_S1024x1024_S512x512_0_0)).mpr fun a => ?_⟩
    match a with
    | ⟨0, _⟩ => show 0 ≤ 0 + 1 * (x 0).val ∧ 0 + 1 * (x 0).val < 0 + 512; omega
    | ⟨1, _⟩ => show 0 ≤ 0 + 1 * (x 1).val ∧ 0 + 1 * (x 1).val < 0 + 512; omega
  · refine ⟨_, List.mem_cons_self .., (Rect.mem_set_unit (inb := inb_S1024x1024_S512x512_0_512)).mpr fun a => ?_⟩
    match a with
    | ⟨0, _⟩ => show 0 ≤ 0 + 1 * (x 0).val ∧ 0 + 1 * (x 0).val < 0 + 512; omega
    | ⟨1, _⟩ => show 512 ≤ 0 + 1 * (x 1).val ∧ 0 + 1 * (x 1).val < 512 + 512; omega

/-- Every grid point leaves the merged block in the output's buffer. -/
theorem point (c : Dev nD) (t : Fin cfg0.N) (y : S1024x1024.Idx) : outsAt0 m c t y
   = O (iblk m c 0 t) (iblk m c 1 t) (iblk m c 2 t) (iblk m c 3 t) (iblk m c 4 t) (iblk m c 5 t) (iblk m c 6 t) (iblk m c 7 t) (iblk m c 8 t) y := by
  unfold outsAt0
  frame_out
  simp (disch := decide) only [↓ View.readCov_skip, ↓ View.readCov_cons_toLoadRect]
  generalize (iblk m c 0 t : FVec Ideal S1024x1024 .f32) = x0
  generalize (iblk m c 1 t : FVec Ideal S1024x512 .bf16) = x1
  generalize (iblk m c 2 t : FVec Ideal S1024x512 .bf16) = x2
  generalize (iblk m c 3 t : FVec Ideal S1x1024 .f32) = x3
  generalize (iblk m c 4 t : FVec Ideal S1x2048 .f32) = x4
  generalize (iblk m c 5 t : FVec Ideal S1024x2048 .bf16) = x5
  generalize (iblk m c 6 t : FVec Ideal S512x1024 .bf16) = x6
  generalize (iblk m c 7 t : FVec Ideal S512x1024 .bf16) = x7
  generalize (iblk m c 8 t : FVec Ideal S1024x1024 .bf16) = x8
  refine View.canon_append_of_piecesOf (Val := Elt Ideal) (e := .f32) (O x0 x1 x2 x3 x4 x5 x6 x7 x8) [] [_, _, _, _] ⟨?_, ?_, ?_, ?_, trivial⟩ y ?_
  case refine_1 =>
    rw [View.readCov_of_blocks (Val := Elt Ideal) (e := .bf16) _ (Y x0 x1 x2 x3 x4 x5 x6 x7) [_, _, _, _] _ ⟨?_, ?_, ?_, ?_, trivial⟩ ?_]
    · intro x
      pointwise [O, k0_pay2]
      blk_point []
    · intro x
      pointwise [Y, mixed, gated, logit, H, normed, k0_pay21, k0_pay20, k0_pay19, k0_pay18, k0_pay17, k0_pay8, k0_pay7]
      blk_point []
    · intro x
      pointwise [Y, mixed, gated, logit, H, normed, k0_pay16, k0_pay15, k0_pay14, k0_pay13, k0_pay8, k0_pay7]
      blk_point []
    · intro x
      pointwise [Y, mixed, gated, logit, H, normed, k0_pay12, k0_pay11, k0_pay10, k0_pay9, k0_pay3]
      blk_point []
    · intro x
      pointwise [Y, mixed, gated, logit, H, normed, k0_pay6, k0_pay5, k0_pay4, k0_pay3]
      blk_point []
    · intro x
      exact View.cover_of_tiledL _ ![512, 512] rfl _
  case refine_2 =>
    rw [View.readCov_of_blocks (Val := Elt Ideal) (e := .bf16) _ (Y x0 x1 x2 x3 x4 x5 x6 x7) [_, _, _, _] _ ⟨?_, ?_, ?_, ?_, trivial⟩ ?_]
    · intro x
      pointwise [O, k0_pay1]
      blk_point []
    · intro x
      pointwise [Y, mixed, gated, logit, H, normed, k0_pay21, k0_pay20, k0_pay19, k0_pay18, k0_pay17, k0_pay8, k0_pay7]
      blk_point []
    · intro x
      pointwise [Y, mixed, gated, logit, H, normed, k0_pay16, k0_pay15, k0_pay14, k0_pay13, k0_pay8, k0_pay7]
      blk_point []
    · intro x
      pointwise [Y, mixed, gated, logit, H, normed, k0_pay12, k0_pay11, k0_pay10, k0_pay9, k0_pay3]
      blk_point []
    · intro x
      pointwise [Y, mixed, gated, logit, H, normed, k0_pay6, k0_pay5, k0_pay4, k0_pay3]
      blk_point []
    · intro x
      exact View.cover_of_tiledL _ ![512, 512] rfl _
  case refine_3 =>
    rw [View.readCov_of_blocks (Val := Elt Ideal) (e := .bf16) _ (Y x0 x1 x2 x3 x4 x5 x6 x7) [_, _] _ ⟨?_, ?_, trivial⟩ ?_]
    · intro x
      pointwise [O, k0_pay23]
      blk_point []
    · intro x
      pointwise [Y, mixed, gated, logit, H, normed, k0_pay12, k0_pay11, k0_pay10, k0_pay9, k0_pay3]
      blk_point []
    · intro x
      pointwise [Y, mixed, gated, logit, H, normed, k0_pay6, k0_pay5, k0_pay4, k0_pay3]
      blk_point []
    · intro x
      exact top_half _ _ x
  case refine_4 =>
    rw [View.readCov_of_blocks (Val := Elt Ideal) (e := .bf16) _ (Y x0 x1 x2 x3 x4 x5 x6 x7) [_, _] _ ⟨?_, ?_, trivial⟩ ?_]
    · intro x
      pointwise [O, k0_pay22]
      blk_point []
    · intro x
      pointwise [Y, mixed, gated, logit, H, normed, k0_pay12, k0_pay11, k0_pay10, k0_pay9, k0_pay3]
      blk_point []
    · intro x
      pointwise [Y, mixed, gated, logit, H, normed, k0_pay6, k0_pay5, k0_pay4, k0_pay3]
      blk_point []
    · intro x
      exact top_half _ _ x
  exact View.cover_of_tiledL _ ![512, 512] rfl y
end Cert.Kernel2Ideal.Merge
-- ==== Proof.MergeFinal.lean ====
/- The result array of the merge kernel after the run, and the reference's array: both are the merged rows. -/
module
public import proofs.«01_k».proof.Proof.MergePoint
public import proofs.«01_k».proof.Proof.Gen.Reference2Ideal.Read

@[expose] public section
set_option maxRecDepth 16384
noncomputable section
open Idealize.ShloMosaic Idealize.ShloMosaic.TcCoe Idealize.SL.Sem

namespace Cert.Reference2Ideal.Merge
open Cert.Reference2Ideal Cert.Reference2Ideal.Gen Cert.Reference2Ideal.Read Cert.MergeRows

/-- The merged array: every row of the input merged with the same row of the two branches. -/
def merged (x0 : FVec Ideal S32768x1024 .f32) (x1 x2 : FVec Ideal S32768x512 .bf16) (x3 : FVec Ideal S1x1024 .f32) (x4 : FVec Ideal S1x2048 .f32)
    (x5 : FVec Ideal S1024x6144 .bf16) (x6 x7 : FVec Ideal S512x1024 .bf16) (x8 : FVec Ideal S1024x1024 .bf16) : FVec Ideal S32768x1024 .f32 := fun i =>
  x0 i + ∑ k, mixed (normed (fun l => x0 (ix2 (i 0) l)) (fun l => x3 (ix2 0 l))) (fun l g => x5 (ix2 l ⟨4096 + g.val, by omega⟩)) (fun g => x4 (ix2 0 g))
    (fun l => x1 (ix2 (i 0) l)) (fun l => x2 (ix2 (i 0) l)) (fun l c => x6 (ix2 l c)) (fun l c => x7 (ix2 l c)) k * x8 (ix2 k (i 1))

/-- The reference computes the merged array. -/
theorem reference_eq (x0 : FVec Ideal S32768x1024 .f32) (x1 x2 : FVec Ideal S32768x512 .bf16) (x3 : FVec Ideal S1x1024 .f32) (x4 : FVec Ideal S1x2048 .f32)
    (x5 : FVec Ideal S1024x6144 .bf16) (x6 x7 : FVec Ideal S512x1024 .bf16) (x8 : FVec Ideal S1024x1024 .bf16) :
    val_main_v42 (F := Ideal) x0 x1 x2 x3 x4 x5 x6 x7 x8 = merged x0 x1 x2 x3 x4 x5 x6 x7 x8 := by
  funext i
  idx_vars i
  pointwise [val_main_v42, val_main_v41, val_main_v40, val_main_v39, val_main_v38, val_main_v37, val_main_v36, val_main_v35, val_main_v34, val_main_v33,
    val_main_v32, val_main_v31, val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v2, val_main_v1, val_main_v0,
    val_main_cst, val_main_cst_0, val_main_cst_1, val_main_cst_2, val_main_cst_3, val_main_cst_4, val_main_cst_5]
  simp only [div_sigmoid]
  pointwise [merged, mixed, gated, logit, normed]

end Cert.Reference2Ideal.Merge

namespace Cert.Kernel2Ideal.Merge
open Cert.Kernel2Ideal Cert.Kernel2Ideal.Gen Cert.MergeRows
variable (m : (ℓ : Loc nD τ sig) → Buf (Elt Ideal) ℓ)

/-- Which block of each array every grid point sees. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 2] ∧ win0_6.index t = ![0, 0] ∧ win0_7.index t = ![0, 0]
    ∧ win0_8.index t = ![0, 0] ∧ win0_9.index t = ![t.val, 0] :=
  (by decide +kernel : ∀ t : Fin grid0.N, _)

/-- The kernel's result array is the merged array of its arguments. -/
theorem final (c : Dev nD) : (dats m 0 c).arrAt 9 (cfgs 0).N
    = Cert.Reference2Ideal.Merge.merged (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) := by
  refine (dats m 0 c).arrAt_eq_of_covers 9 _ (by decide +kernel) fun t hf y => ?_
  blk_simp
  rw [after0_9, point m c t y]
  pointwise [O, Y, H, Cert.Reference2Ideal.Merge.merged, mixed, gated, logit, normed]
  blk_point [iblk, V, idx t]

end Cert.Kernel2Ideal.Merge
-- ==== Proof.lean ====
/- The certificate of the projecting and the merging call: the frames, and the equality of the results with the references'. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.ProjFinal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel2Ideal.Value
public import proofs.«01_k».proof.Proof.MergeFinal
public import Idealize.ShloMosaic.Lib.Claim
public import Idealize.ShloMosaic.Lib.WordCmp
public import Idealize.ShloMosaic.Adequacy
public import Idealize.ShloMosaic.Init

@[expose] public section

noncomputable section

namespace Cert.Proof

open Idealize.ShloMosaic Idealize.ShloMosaic.TcCoe Idealize.SL.Sem

instance finite_facts : Cert.Pre_finite.Facts where
  bcast_S_S32768x1024 := by decide
  bcast_S_S1x1024 := by decide
  bcast_S_S1024x6144 := by decide

theorem frame_kernel : Cert.quiescent_Kernel (hKernel := Cert.Kernel.Gen.facts) := fun m g _ => Cert.Kernel.Gen.frame m g

theorem frame_kernelIdeal : Cert.quiescent_KernelIdeal (hKernelIdeal := Cert.KernelIdeal.Gen.facts) := fun m g _ => Cert.KernelIdeal.Gen.frame m g

theorem frame_referenceIdeal : Cert.quiescent_ReferenceIdeal (hReferenceIdeal := Cert.ReferenceIdeal.Gen.facts) := fun m g _ =>
  (θ_run Cert.ReferenceIdeal.defs _ _).mono (fun r h => ⟨fun c => (h c).2.2.2.2.2.2, sem_eq_zero_of_no_sems (by decide) r.2⟩)
    (Cert.ReferenceIdeal.Value.run (F := Ideal) m g)

open Cert.KernelIdeal Cert.Finite in
/-- What the precondition says: the rows, the norm's weights and the projection's weights are finite. -/
theorem finite_arguments (m : (ℓ : Loc nD τ sig) → Buf (Elt Ideal) ℓ) (h : Cert.Pre_KernelIdeal_finite (hPre_finite := finite_facts) m) (c : Dev nD) :
    (∀ i, Real' (m ((c : Thread nD τ).loc main_arg0) i)) ∧ (∀ i, Real' (m ((c : Thread nD τ).loc main_arg1) i)) ∧ ∀ i, Real' (m ((c : Thread nD τ).loc main_arg3) i) := by
  obtain ⟨h0, h1, h3⟩ := h c
  have t : Ideal.ofBits .f32 0x7F800000#32 = (⊤ : EReal) := by simp [Ideal.ofBits, Ideal.ieee]
  have t' : Ideal.ofBits .bf16 0x7F80#16 = (⊤ : EReal) := by simp [Ideal.ofBits, Ideal.ieee]
  refine ⟨fun i => ?_, fun i => ?_, fun i => ?_⟩
  · have h := congrFun h0 i
    idx_vars i
    pointwise [Cert.Pre_finite.fn] at h
    rw [t] at h
    exact fin_of_abs_lt (of_decide_eq_true ((WordCmp.ofBool_eq_one_iff _).mp h))
  · have h := congrFun h1 i
    idx_vars i
    pointwise [Cert.Pre_finite.fn] at h
    rw [t] at h
    exact fin_of_abs_lt (of_decide_eq_true ((WordCmp.ofBool_eq_one_iff _).mp h))
  · have h := congrFun h3 i
    idx_vars i
    pointwise [Cert.Pre_finite.fn] at h
    rw [t'] at h
    exact fin_of_abs_lt (of_decide_eq_true ((WordCmp.ofBool_eq_one_iff _).mp h))

open Cert.KernelIdeal.Proj Cert.ReferenceIdeal Cert.ReferenceIdeal.Proj in
set_option maxHeartbeats 2000000 in
/-- The kernel and the reference end with the same six arrays. -/
theorem algebraic : Cert.algebraic_KernelIdeal_ReferenceIdeal_pre_finite (hKernelIdeal := Cert.KernelIdeal.Gen.facts) (hReferenceIdeal := Cert.ReferenceIdeal.Gen.facts)
    (hPre_finite := finite_facts) := by
  pair_intro
  · run_from Cert.KernelIdeal.Gen.run_main m g
  · run_from Cert.ReferenceIdeal.Value.run m' g'
    all_goals obtain ⟨e0, e1, e2, e3⟩ := hagree c
    all_goals have hP := let h := finite_arguments m hpre c; finite_block m c h.1 h.2.1 h.2.2
    · exact ((Read.val_main_v91_eq ..).trans (projected_eq ..)).trans (final4 m c).symm
    · refine ((Read.val_main_v92_eq m' c).trans (keys_eq ..)).trans ?_
      rw [e0, e1, e2, e3]
      exact (final5 m c hP).symm
    · refine ((Read.val_main_v43_eq m' c).trans (means_eq ..)).trans ?_
      rw [e0, e1, e2, e3]
      exact (final6 m c hP).symm
    · rw [e3]
      exact ((Read.val_main_v93_eq ..).trans (valuesA_eq ..)).trans (final7 m c).symm
    · exact ((Read.val_main_v96_eq ..).trans (valuesB_eq ..)).trans (final8 m c).symm
    · rw [e3]
      exact ((Read.val_main_v97_eq ..).trans (queriesB_eq ..)).trans (final9 m c).symm

theorem frame_kernel2 : Cert.quiescent_Kernel2 (hKernel2 := Cert.Kernel2.Gen.facts) := fun m g _ => Cert.Kernel2.Gen.frame m g

theorem frame_kernelIdeal2 : Cert.quiescent_Kernel2Ideal (hKernel2Ideal := Cert.Kernel2Ideal.Gen.facts) := fun m g _ => Cert.Kernel2Ideal.Gen.frame m g

theorem frame_referenceIdeal2 : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

/-- The kernel and the reference end with the same array: the merged rows of the arguments. -/
theorem algebraic2 : Cert.algebraic_Kernel2Ideal_Reference2Ideal (hKernel2Ideal := Cert.Kernel2Ideal.Gen.facts) (hReference2Ideal := Cert.Reference2Ideal.Gen.facts) := by
  pair_intro
  · run_from Cert.Kernel2Ideal.Gen.run_main m g
  · run_from Cert.Reference2Ideal.Value.run m' g'
    exact ((Cert.Reference2Ideal.Read.val_main_v42_eq ..).trans (Cert.Reference2Ideal.Merge.reference_eq ..)).trans (Cert.Kernel2Ideal.Merge.final m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, finite_facts,
  frame_kernel, frame_kernelIdeal, fun m g h => Cert.KernelIdeal.Gen.frame m g, frame_referenceIdeal, fun m g h => frame_referenceIdeal m g trivial,
  frame_kernel2, frame_kernelIdeal2, frame_referenceIdeal2, trivial, algebraic, trivial, algebraic2⟩

end Cert.Proof

end
